-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S8192x4096 : Shape := ⟨2, ![8192, 4096]⟩
abbrev S64x4096 : Shape := ⟨2, ![64, 4096]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  bcast_S_S64x4096 : S_.BroadcastsInDim S64x4096 (![] : Fin 0 → Fin S64x4096.rank)
  bcast_S_S64 : S_.BroadcastsInDim S64 (![] : Fin 0 → Fin S64.rank)

variable [Facts]

def fn {F : FTy → Type} [FloatOps F] (main_arg0 : FVec F S8192x4096 .f32) (main_arg1 : FVec F S64x4096 .f32) (main_arg2 : FVec F S64 .f32) : IVec S8192x4096 1 × IVec S64x4096 1 × IVec S64 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S64x4096 .f32 := Host.absf main_arg1
  let main_cst_0 : FVec F S_ .f32 := constant S_ .f32 0x7F800000#32
  let main_v4 : FVec F S64x4096 .f32 := broadcastInDim S64x4096 ![] bcast_S_S64x4096 main_cst_0
  let main_v5 : IVec S64x4096 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  (main_v2, main_v5, main_v8)
-- ==== Kernel.lean ====
abbrev S8192x4096 : Shape := ⟨2, ![8192, 4096]⟩
abbrev S64x4096 : Shape := ⟨2, ![64, 4096]⟩
abbrev S64 : Shape := ⟨1, ![64]⟩
abbrev S4096x64 : Shape := ⟨2, ![4096, 64]⟩
abbrev S_ : Shape := ⟨0, ![]⟩
abbrev S8x64 : Shape := ⟨2, ![8, 64]⟩
abbrev S1 : Shape := ⟨1, ![1]⟩
abbrev S8192x64 : Shape := ⟨2, ![8192, 64]⟩
abbrev S128x64 : Shape := ⟨2, ![128, 64]⟩
abbrev S512x4096 : Shape := ⟨2, ![512, 4096]⟩
abbrev S512x64 : Shape := ⟨2, ![512, 64]⟩
abbrev S1x64 : Shape := ⟨2, ![1, 64]⟩
abbrev S8192x8 : Shape := ⟨2, ![8192, 8]⟩
abbrev S512x8 : Shape := ⟨2, ![512, 8]⟩
abbrev S16x8x64 : Shape := ⟨3, ![16, 8, 64]⟩
abbrev S16x1x64 : Shape := ⟨3, ![16, 1, 64]⟩
abbrev S16x64 : Shape := ⟨2, ![16, 64]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S_, .f32⟩
  | .hbm, ⟨5, _⟩ => ⟨S8x64, .f32⟩
  | .hbm, ⟨6, _⟩ => ⟨S_, .i32⟩
  | .hbm, ⟨7, _⟩ => ⟨S1, .i32⟩
  | .hbm, ⟨8, _⟩ => ⟨S8x64, .f32⟩
  | .hbm, ⟨9, _⟩ => ⟨S8192x64, .f32⟩
  | .hbm, ⟨10, _⟩ => ⟨S128x64, .f32⟩
  | .hbm, ⟨11, _⟩ => ⟨S8192x8, .i32⟩
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S8x64, .f32⟩
  | .local _ .vmem, ⟨4, _⟩ => ⟨S512x64, .f32⟩
  | .local _ .vmem, ⟨5, _⟩ => ⟨S512x64, .f32⟩
  | .local _ .vmem, ⟨6, _⟩ => ⟨S8x64, .f32⟩
  | .local _ .vmem, ⟨7, _⟩ => ⟨S8x64, .f32⟩
  | .local _ .vmem, ⟨8, _⟩ => ⟨S512x64, .f32⟩
  | .local _ .vmem, ⟨9, _⟩ => ⟨S512x64, .f32⟩
  | .local _ .vmem, ⟨10, _⟩ => ⟨S128x64, .f32⟩
  | .local _ .vmem, ⟨11, _⟩ => ⟨S512x8, .i32⟩
  | .local _ .vmem, ⟨12, _⟩ => ⟨S512x8, .i32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x8 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S8192x4096 : Shape := ⟨2, ![8192, 4096]⟩
abbrev S64x4096 : Shape := ⟨2, ![64, 4096]⟩
abbrev S64 : Shape := ⟨1, ![64]⟩
abbrev S4096x64 : Shape := ⟨2, ![4096, 64]⟩
abbrev S8192x64 : Shape := ⟨2, ![8192, 64]⟩
abbrev S1x64 : Shape := ⟨2, ![1, 64]⟩
abbrev S_ : Shape := ⟨0, ![]⟩
abbrev S8192x8 : Shape := ⟨2, ![8192, 8]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S8192x64, .f32⟩
  | .hbm, ⟨5, _⟩ => ⟨S1x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S_, .f32⟩
  | .hbm, ⟨18, _⟩ => ⟨S64, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x8, .f32⟩
  | .hbm, ⟨23, _⟩ => ⟨S8192x8, .i32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩

abbrev nD : Nat := 1
abbrev τ : Topo := Topo.v7x

variable {F : FTy → Type} [FloatOps F]
-- ==== Proof.Body.lean ====
/-
  What one run of each kernel body does to its staging buffers, over any floats.

  The first body (`gate_body`) leaves its block of gate values whole, and of the eight statistics rows
  writes two: row 0 the block's column maxima, row 1 the block's column sums of exponentials. The six rows
  below are left as they were found, so nothing is said of them (`StatRows`).
  The second body (`pick_body`) leaves the eight chosen expert numbers of each token of its block.
-/
module

public import proofs.«01_k».proof.Proof.Gen.KernelIdeal.Launch
public import proofs.«01_k».proof.Proof.Gen.KernelIdeal.Points
public import proofs.«01_k».proof.Proof.Gen.KernelIdeal.Regions
public import proofs.«01_k».proof.Proof.Gen.KernelIdeal.Skeleton
public import Idealize.ShloMosaic.Lib.HostLoop.Lifted
public import Idealize.ShloMosaic.Lib.Pipeline.FrameBody
public import Idealize.ShloMosaic.Lib.WritesUnit
public import Idealize.ShloMosaic.Lib.VecWindow
public import Idealize.ShloMosaic.Lib.Pointwise.Index
public import Idealize.ShloMosaic.Lib.Tactic

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: one copy of the pipeline library's for each of the two calls, beside the counters. -/
abbrev UU : Type := IProdConst (Fin 2) (UR sig nD τ) × Counters

local notation "𝕄" => MT nD τ sig Unit (Elt F) ℕ UU ℕ

/-! ## What the bodies compute -/

/-- The one row of the padded bias the first body loads. -/
def biasRow (b : Vec F S8x64 .f32) : Vec F S1x64 .f32 :=
  View.ld b (Rect.unit (s := S8x64) ![0, 0] S1x64.size inb_S8x64_S1x64_0_0)

/-- The block of gate values. -/
def gateBlk (x : Vec F S512x4096 .f32) (w : Vec F S4096x64 .f32) (b : Vec F S8x64 .f32) : Vec F S512x64 .f32 :=
  k0_pay1 x w (biasRow b)
/-- The block's column maxima. -/
def maxRow (x : Vec F S512x4096 .f32) (w : Vec F S4096x64 .f32) (b : Vec F S8x64 .f32) : Vec F S1x64 .f32 :=
  k0_pay2 x w (biasRow b)
/-- The block's column sums of exponentials. -/
def sumRow (x : Vec F S512x4096 .f32) (w : Vec F S4096x64 .f32) (b : Vec F S8x64 .f32) : Vec F S1x64 .f32 :=
  k0_pay3 x w (biasRow b)

/-- The statistics block `d` has the column maxima in row 0 and the column sums in row 1. -/
def StatRows (x : Vec F S512x4096 .f32) (w : Vec F S4096x64 .f32) (b : Vec F S8x64 .f32) (d : Vec F S8x64 .f32) : Prop :=
  ∀ e : Fin 64, d (ix2 0 e) = maxRow x w b (ix2 0 e) ∧ d (ix2 1 e) = sumRow x w b (ix2 0 e)

/-- The block of chosen expert numbers, from the block of gate values and all the statistics. -/
def pickBlk (g : Vec F S512x64 .f32) (st : Vec F S128x64 .f32) : Vec F S512x8 .i32 :=
  let io : IVec S512x64 32 := iota .tc S512x64 32 [1] iota_S512x64_d1_w32
  k1_pay1 io (k1_pay3 st g) (k1_pay5 st g)
    (k1_pay9 io (k1_pay4 st g) (k1_pay6 st g) k1_pay7) (k1_pay11 io (k1_pay4 st g) (k1_pay6 st g) k1_pay7)
    (k1_pay13 io (k1_pay4 st g) (k1_pay6 st g) k1_pay7) (k1_pay14 io (k1_pay4 st g) (k1_pay6 st g) k1_pay7)
    (k1_pay15 io (k1_pay4 st g) (k1_pay6 st g) k1_pay7)

/-! ## The bodies' runs -/

/-- After the two row stores the statistics buffer has the two rows, whatever it held. -/
theorem statRows_of_stores {sp : Space} (v : View sig .tc sp S8x64 .f32) (f : v.ty.Contents (Elt F))
    (x : Vec F S512x4096 .f32) (w : Vec F S4096x64 .f32) (b : Vec F S8x64 .f32) :
    StatRows x w b (v.read (Elt F) (v.writes (Elt F) f
      [⟨Rect.unit (s := S8x64) ![1, 0] S1x64.size inb_S8x64_S1x64_1_0, sumRow x w b⟩,
        ⟨Rect.unit (s := S8x64) ![0, 0] S1x64.size inb_S8x64_S1x64_0_0, maxRow x w b⟩])) := fun e => by
  constructor
  · refine (View.read_writes_cons_rows_of_not_mem v f (o := 1) (W := 1) _ _ _ _ rfl rfl (.inl Nat.zero_lt_one)).trans ?_
    exact View.read_writes_cons_rows_of_mem v f (o := 0) _ _ _ _ (ix2 0 e) rfl rfl rfl
  · exact View.read_writes_cons_rows_of_mem v f (o := 1) _ _ _ _ (ix2 0 e) rfl rfl rfl

/-- The first body, run from whole staging buffers. -/
theorem gate_body (c : Dev nD) (i : grid0.Coords)
    (M1 : Memref sig .tc .vmem S512x4096 .f32) (h1 : M1.IsWhole) (M2 : Memref sig .tc .vmem S4096x64 .f32) (h2 : M2.IsWhole)
    (M3 : Memref sig .tc .vmem S8x64 .f32) (h3 : M3.IsWhole) (M4 : Memref sig .tc .vmem S512x64 .f32) (h4 : M4.IsWhole)
    (M5 : Memref sig .tc .vmem S8x64 .f32) (h5 : M5.IsWhole)
    (x : Vec F S512x4096 .f32) (w : Vec F S4096x64 .f32) (b : Vec F S8x64 .f32) (E : Set ℕ) (Q : PUnit → sProp 𝕄) :
    iprop(owns (c : Thread nD τ) M1 fullShare x ∗ owns (c : Thread nD τ) M2 fullShare w ∗ owns (c : Thread nD τ) M3 fullShare b
        ∗ (∃ d, owns (c : Thread nD τ) M4 fullShare d) ∗ (∃ d, owns (c : Thread nD τ) M5 fullShare d)
        ∗ (iprop(owns (c : Thread nD τ) M1 fullShare x ∗ owns (c : Thread nD τ) M2 fullShare w ∗ owns (c : Thread nD τ) M3 fullShare b
            ∗ owns (c : Thread nD τ) M4 fullShare (gateBlk x w b)
            ∗ (∃ d, ⌜StatRows x w b d⌝ ∗ owns (c : Thread nD τ) M5 fullShare d)) -∗ Q ⟨⟩))
      ⊢ wp frame (wpE (defs₀ (F := F)) Variants.none c none) E (cc0__gate_stats_kernel i M1 h1 M2 h2 M3 h3 M4 h4 M5 h5) Q := by
  rw [cc0__gate_stats_kernel_eq_skeleton]; unfold cc0__gate_stats_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.readAt_full, View.readAt_full]
    exact View.read_writes_full _ _ _ _ _
  iexists _; isplitr
  swap
  · iexists _; isplitr
    swap; · iexact H5
    ipureintro; rfl
  ipureintro
  rw [View.readAt_full, View.readAt_full]
  exact statRows_of_stores _ _ _ _ _

/-- The second body, run from whole staging buffers. -/
theorem pick_body (c : Dev nD) (i : grid1.Coords)
    (M1 : Memref sig .tc .vmem S512x64 .f32) (h1 : M1.IsWhole) (M2 : Memref sig .tc .vmem S128x64 .f32) (h2 : M2.IsWhole)
    (M3 : Memref sig .tc .vmem S512x8 .i32) (h3 : M3.IsWhole)
    (g : Vec F S512x64 .f32) (st : Vec F S128x64 .f32) (E : Set ℕ) (Q : PUnit → sProp 𝕄) :
    iprop(owns (c : Thread nD τ) M1 fullShare g ∗ owns (c : Thread nD τ) M2 fullShare st ∗ (∃ d, owns (c : Thread nD τ) M3 fullShare d)
        ∗ (iprop(owns (c : Thread nD τ) M1 fullShare g ∗ owns (c : Thread nD τ) M2 fullShare st
            ∗ owns (c : Thread nD τ) M3 fullShare (pickBlk g st)) -∗ Q ⟨⟩))
      ⊢ wp frame (wpE (defs₀ (F := F)) Variants.none c none) E (cc1__topk_kernel i M1 h1 M2 h2 M3 h3) Q := by
  rw [cc1__topk_kernel_eq_skeleton]; unfold cc1__topk_kernel_skel
  rw [k1_part1_eq_skeleton, k1_part2_eq_skeleton]; unfold k1_part1_skel k1_part2_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.readAt_full, View.readAt_full]
  exact View.read_writes_full _ _ _ _ _

end Cert.KernelIdeal.Run

end
-- ==== Proof.Data.lean ====
/-
  The two calls' proof data: what each window's staging buffer holds after the body at each grid point, and the
  proof that the bodies do leave that (over any contents `V` of the arrays on entry).

  Call 0's statistics window is held to a relation, not to contents: two of its eight rows are computed and six
  are whatever the staging buffer held (`Stat`).
-/
module

public import proofs.«01_k».proof.Proof.Body
public import Idealize.ShloMosaic.Lib.Pipeline.DatRel

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ UU ℕ

variable (V : (c : Dev nD) → (b : Ref sig .tc) → Buf (Elt F) ((c : Thread nD τ).loc b))

/-! ## Call 0 -/

/-- Window `w`'s block of call 0 at point `t`, as the entry contents have it. -/
abbrev blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The contents a statistics window may be left with at each point: one block for each. -/
abbrev Stats (F : FTy → Type) : Type := Fin cfg0.N → Vec F S8x64 .f32

/-- Point `t`'s statistics block `d` has the two rows call 0's body computes there. -/
def Stat (c : Dev nD) (t : Fin cfg0.N) (d : Vec F S8x64 .f32) : Prop :=
  StatRows (blk0 V c 0 t) (blk0 V c 1 t) (blk0 V c 2 t) d

/-- Call 0's proof data, the statistics window left at `X`. -/
def dat0 (X : Stats F) (c : Dev nD) : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => gateBlk (blk0 V c 0 t) (blk0 V c 1 t) (blk0 V c 2 t)
    | ⟨4, _⟩ => X t
  Φ _ := Pipeline.scopedRest (Ix := Unit) (Name := ℕ) (U := UU) (Lvl := ℕ) (Val := Elt F) spec0 c
  q _ := fullShare
  owed _ := 0

/-- The window of call 0 held to a relation: the statistics. -/
abbrev fgt0 : Fin cfg0.W → Bool := fun w => match w with
  | ⟨0, _⟩ => false
  | ⟨1, _⟩ => false
  | ⟨2, _⟩ => false
  | ⟨3, _⟩ => false
  | ⟨4, _⟩ => true

/-- The relation it is held to. -/
abbrev rel0 (c : Dev nD) : (w : Fin cfg0.W) → Fin cfg0.N → ((cfg0.win w).block.Idx → Elt F (cfg0.win w).elt) → Prop := fun w t => match w with
  | ⟨0, _⟩ => fun _ => True
  | ⟨1, _⟩ => fun _ => True
  | ⟨2, _⟩ => fun _ => True
  | ⟨3, _⟩ => fun _ => True
  | ⟨4, _⟩ => fun d => Stat V c t d

theorem after0_0 (X : Stats F) (c : Dev nD) (t : Fin cfg0.N) : (dat0 V X c).after 0 t = blk0 V c 0 t := by dsimp only [dat0]
theorem after0_1 (X : Stats F) (c : Dev nD) (t : Fin cfg0.N) : (dat0 V X c).after 1 t = blk0 V c 1 t := by dsimp only [dat0]
theorem after0_2 (X : Stats F) (c : Dev nD) (t : Fin cfg0.N) : (dat0 V X c).after 2 t = blk0 V c 2 t := by dsimp only [dat0]
theorem after0_3 (X : Stats F) (c : Dev nD) (t : Fin cfg0.N) :
    (dat0 V X c).after 3 t = gateBlk (blk0 V c 0 t) (blk0 V c 1 t) (blk0 V c 2 t) := by dsimp only [dat0]
theorem after0_4 (X : Stats F) (c : Dev nD) (t : Fin cfg0.N) : (dat0 V X c).after 4 t = X t := by dsimp only [dat0]

theorem before0_0 (X : Stats F) (c : Dev nD) (t : Fin cfg0.N) (d) : (dat0 V X c).before 0 t d = blk0 V c 0 t :=
  (Dat.before_in_eq_fetched (dat0 V X c) 0 rfl (fun _ => rfl) (fun _ _ _ => rfl) (fun _ => rfl) t d).trans rfl
theorem before0_1 (X : Stats F) (c : Dev nD) (t : Fin cfg0.N) (d) : (dat0 V X c).before 1 t d = blk0 V c 1 t :=
  (Dat.before_in_eq_fetched (dat0 V X c) 1 rfl (fun _ => rfl) (fun _ _ _ => rfl) (fun _ => rfl) t d).trans rfl
theorem before0_2 (X : Stats F) (c : Dev nD) (t : Fin cfg0.N) (d) : (dat0 V X c).before 2 t d = blk0 V c 2 t :=
  (Dat.before_in_eq_fetched (dat0 V X c) 2 rfl (fun _ => rfl) (fun _ _ _ => rfl) (fun _ => rfl) t d).trans rfl

/-- The body table's row at point `t`'s slots is the body as `bodyAt0` spells it. -/
theorem row0 (t : Fin cfg0.N) : defs₀ (F := F) .tc cfg0.body (cfg0.bodyArgs t (cfg0.slots t)) = bodyAt0 t := by
  unfold defs₀; rw [Defs.onTc_tc]

/-- Call 0's body obligation, the statistics held to their relation. -/
theorem body0 (X : Stats F) (c : Dev nD) :
    BodyObligationRel (dat0 V X c) (defs₀ (F := F)) Variants.none () Set.univ fgt0 (rel0 V c) := fun t => by
  rw [bigSep_W0, bigSep_W0, row0]
  refine triple_restated (P := iprop((dat0 V X c).Φ t.castSucc ∗ (dat0 V X c).owesAt () t.castSucc
      ∗ (∃ d, owns (c : Thread nD τ) (st0_0 t) fullShare ((dat0 V X c).before 0 t d))
      ∗ (∃ d, owns (c : Thread nD τ) (st0_1 t) fullShare ((dat0 V X c).before 1 t d))
      ∗ (∃ d, owns (c : Thread nD τ) (st0_2 t) fullShare ((dat0 V X c).before 2 t d))
      ∗ (∃ d, owns (c : Thread nD τ) (st0_3 t) fullShare ((dat0 V X c).before 3 t d))
      ∗ (∃ Y, ⌜((dat0 V X c).toRRel fgt0 (rel0 V c)).Finds 4 t Y⌝ ∗ owns (c : Thread nD τ) (st0_4 t) fullShare Y)))
    (Q := fun _ => iprop((dat0 V X c).Φ t.succ ∗ (dat0 V X c).owesAt () t.succ
      ∗ owns (c : Thread nD τ) (st0_0 t) fullShare ((dat0 V X c).after 0 t)
      ∗ owns (c : Thread nD τ) (st0_1 t) fullShare ((dat0 V X c).after 1 t)
      ∗ owns (c : Thread nD τ) (st0_2 t) fullShare ((dat0 V X c).after 2 t)
      ∗ owns (c : Thread nD τ) (st0_3 t) fullShare ((dat0 V X c).after 3 t)
      ∗ (∃ Y, ⌜Stat V c t Y⌝ ∗ owns (c : Thread nD τ) (st0_4 t) fullShare Y))) ?_ rfl .rfl fun _ => .rfl
  unfold bodyAt0
  simp only [before0_0, before0_1, before0_2]
  rw [show (dat0 V X c).Φ t.succ = (dat0 V X c).Φ t.castSucc from rfl,
    show (dat0 V X c).owesAt () t.succ = (dat0 V X c).owesAt () t.castSucc from rfl,
    after0_0, after0_1, after0_2, after0_3]
  iintro ⟨HΦ, Ho, ⟨%d0, H0⟩, ⟨%d1, H1⟩, ⟨%d2, H2⟩, ⟨%d3, H3⟩, ⟨%d4, -, H4⟩⟩
  iapply (gate_body c _ _ _ _ _ _ _ _ _ _ _ (blk0 V c 0 t) (blk0 V c 1 t) (blk0 V c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-! ## Call 1 -/

/-- Window `w`'s block of call 1 at point `t`, as the entry contents have it. -/
abbrev blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- Call 1's proof data. -/
def dat1 (c : Dev nD) : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => pickBlk (blk1 V c 0 t) (blk1 V c 1 t)
  Φ _ := Pipeline.scopedRest (Ix := Unit) (Name := ℕ) (U := UU) (Lvl := ℕ) (Val := Elt F) spec1 c
  q _ := fullShare
  owed _ := 0

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = pickBlk (blk1 V c 0 t) (blk1 V c 1 t) := by dsimp only [dat1]

theorem before1_0 (c : Dev nD) (t : Fin cfg1.N) (d) : (dat1 V c).before 0 t d = blk1 V c 0 t :=
  (Dat.before_in_eq_fetched (dat1 V c) 0 rfl (fun _ => rfl) (fun _ _ _ => rfl) (fun _ => rfl) t d).trans rfl
theorem before1_1 (c : Dev nD) (t : Fin cfg1.N) (d) : (dat1 V c).before 1 t d = blk1 V c 1 t :=
  (Dat.before_in_eq_fetched (dat1 V c) 1 rfl (fun _ => rfl) (fun _ _ _ => rfl) (fun _ => rfl) t d).trans rfl

/-- The body table's row at point `t`'s slots is the body as `bodyAt1` spells it. -/
theorem row1 (t : Fin cfg1.N) : defs₀ (F := F) .tc cfg1.body (cfg1.bodyArgs t (cfg1.slots t)) = bodyAt1 t := by
  unfold defs₀; rw [Defs.onTc_tc]

/-- Call 1's body obligation. -/
theorem body1 (c : Dev nD) : BodyObligation (dat1 V c) (defs₀ (F := F)) Variants.none () Set.univ := fun t => by
  rw [bigSep_W1, bigSep_W1, row1]
  refine triple_restated (P := iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))))
    (Q := fun _ => iprop((dat1 V c).Φ t.succ ∗ (dat1 V c).owesAt () t.succ
      ∗ owns (c : Thread nD τ) (st1_0 t) fullShare ((dat1 V c).after 0 t)
      ∗ owns (c : Thread nD τ) (st1_1 t) fullShare ((dat1 V c).after 1 t)
      ∗ owns (c : Thread nD τ) (st1_2 t) fullShare ((dat1 V c).after 2 t))) ?_ rfl .rfl fun _ => .rfl
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (pick_body c _ _ _ _ _ _ _ (blk1 V c 0 t) (blk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Run

end
-- ==== Proof.Calls.lean ====
/-
  The two calls as regions of the whole program: what every array holds before and after each, and the region
  records over the thread state "every unscoped buffer at a valuation, and the core's dues".

  After call 0 the statistics array holds SOME contents of the kind `Stat` describes, so call 1 is a family of
  regions, one for each.
-/
module

public import proofs.«01_k».proof.Proof.Data
public import Idealize.ShloMosaic.Lib.Pipeline.RegionsForgetLinks
public import Idealize.ShloMosaic.Lib.Pipeline.RegionsForgetR
public import Idealize.ShloMosaic.Lib.Pipeline.ArrRel

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

/-! ## What call 0 leaves -/

/-- Statistics contents of no particular kind. -/
def anyStats : Stats F := fun _ _ => ((inferInstance : ∀ e, Nonempty (Elt F e)) .f32).some

section Exit

variable (V : (c : Dev nD) → (b : Ref sig .tc) → Buf (Elt F) ((c : Thread nD τ).loc b))

/-- Call 0's proof data as a relation. -/
abbrev rdat0 (c : Dev nD) : RDat τ (Elt F) Unit ℕ UU ℕ cfg0 c :=
  (dat0 V anyStats c).toRRel fgt0 (rel0 V c)

/-- A window held to exact contents is left at those. -/
theorem leaves0_exact (c : Dev nD) (w : Fin cfg0.W) (hw : fgt0 w = false) (t : Fin cfg0.N) (X)
    (h : (rdat0 V c).Leaves w t X) : X = (dat0 V anyStats c).after w t := by
  obtain ⟨Y, -, hX⟩ := h
  rw [Dat.toRRel_after_of_eq_false _ hw] at hX
  exact hX

/-- After call 0, its arrays are what the proof data name at some statistics blocks of the right kind. -/
theorem exit0 (c : Dev nD) : ((rdat0 V c).arraysAt cfg0.N : sProp 𝕄)
    ⊢ iprop(∃ X : Stats F, (dat0 V X c).arrays ((dat0 V X c).arrAt · cfg0.N) ∗ ⌜∀ t, Stat V c t (X t)⌝) := by
  unfold RDat.arraysAt Dat.arrays
  refine (BI.bigSep_exists_pi Finset.univ _).trans ?_
  iintro ⟨%A, H⟩
  ihave H' := (BI.bigSep_pure_sep Finset.univ (fun w => (rdat0 V c).ArrAt w cfg0.N (A w)) _) $$ H
  icases H' with ⟨%hA, H⟩
  obtain ⟨X, hX, hA4⟩ := (hA 4 (Finset.mem_univ _)).exists_exact
  have h4 : ∀ t, Stat V c t (X t) := fun t =>
    Dat.toRRel_leaves _ (w := 4) rfl (hX t t.isLt (flush0_4 t))
  have hall : ∀ w, A w = (dat0 V X c).arrAt w cfg0.N := fun w => by
    by_cases hw : fgt0 w = false
    · obtain ⟨Z, hZ, hAw⟩ := (hA w (Finset.mem_univ _)).exists_exact
      refine hAw (dat0 V X c).after fun u hu hf => ?_
      rw [leaves0_exact V c w hw u _ (hZ u hu hf)]
      fin_cases w
      · rfl
      · rfl
      · rfl
      · rfl
      · exact absurd hw (by decide)
    · have : w = 4 := by
        fin_cases w
        · exact absurd rfl hw
        · exact absurd rfl hw
        · exact absurd rfl hw
        · exact absurd rfl hw
        · rfl
      subst this
      exact hA4 (dat0 V X c).after fun u _ _ => rfl
  rw [show A = fun w => (dat0 V X c).arrAt w cfg0.N from funext hall]
  iexists X
  isplitl [H]; · iexact H
  ipureintro; exact h4

end Exit

/-! ## The valuations -/

variable (m : (ℓ : Loc nD τ sig) → Buf (Elt F) ℓ)

/-- The arrays on entry to call 0: the launch's, after the host's operations. -/
abbrev E1 (c : Dev nD) (b : Ref sig .tc) : Buf (Elt F) ((c : Thread nD τ).loc b) := V1 m c b

/-- The gated rows and the statistics as call 0 leaves them. -/
abbrev gateArr (X : Stats F) (c : Dev nD) : Buf (Elt F) ((c : Thread nD τ).loc main_v4_0) := (dat0 (E1 m) X c).arrAt 3 cfg0.N
abbrev statArr (X : Stats F) (c : Dev nD) : Buf (Elt F) ((c : Thread nD τ).loc main_v4_1) := (dat0 (E1 m) X c).arrAt 4 cfg0.N

/-- Every array after call 0. -/
abbrev W2 (X : Stats F) (c : Dev nD) : Valuation τ sig (Elt F) :=
  Function.update (Function.update (V1 m c) main_v4_0 (gateArr m X c)) main_v4_1 (statArr m X c)
abbrev E2 (X : Stats F) (c : Dev nD) (b : Ref sig .tc) : Buf (Elt F) ((c : Thread nD τ).loc b) := W2 m X c b

/-- The indices as call 1 leaves them. -/
abbrev pickArr (X : Stats F) (c : Dev nD) : Buf (Elt F) ((c : Thread nD τ).loc main_v5) := (dat1 (E2 m X) c).arrAt 2 cfg1.N

/-- Every array after call 1. -/
abbrev W3 (X : Stats F) (c : Dev nD) : Valuation τ sig (Elt F) := Function.update (W2 m X c) main_v5 (pickArr m X c)
abbrev E3 (X : Stats F) (c : Dev nD) (b : Ref sig .tc) : Buf (Elt F) ((c : Thread nD τ).loc b) := W3 m X c b

theorem E2_gate (X : Stats F) (c : Dev nD) : E2 m X c main_v4_0 = gateArr m X c := by
  simp only [E2, W2]
  rw [Function.update_of_ne (StableHlo.devRef_ne_of_ne (by decide)), Function.update_self]
theorem E2_stat (X : Stats F) (c : Dev nD) : E2 m X c main_v4_1 = statArr m X c := by
  simp only [E2, W2]
  rw [Function.update_self]
theorem E2_of (X : Stats F) (c : Dev nD) (b : Ref sig .tc) (h0 : b ≠ main_v4_0) (h1 : b ≠ main_v4_1) : E2 m X c b = E1 m c b := by
  simp only [E2, W2, E1]
  rw [Function.update_of_ne (StableHlo.devRef_ne_of_ne h1), Function.update_of_ne (StableHlo.devRef_ne_of_ne h0)]
theorem E3_pick (X : Stats F) (c : Dev nD) : E3 m X c main_v5 = pickArr m X c := by
  simp only [E3, W3]
  rw [Function.update_self]
theorem E3_of (X : Stats F) (c : Dev nD) (b : Ref sig .tc) (h : b ≠ main_v5) : E3 m X c b = E2 m X c b := by
  simp only [E3, W3, E2]
  rw [Function.update_of_ne (StableHlo.devRef_ne_of_ne h)]

/-! ## The region records -/

abbrev 𝒱₀ : Variants := Variants.none
abbrev L : GSem nD τ sig → Finset Unit := fun _ => ∅
abbrev lv : GSem nD τ sig → Unit → ℕ := fun _ _ => 0

/-- Proof data of a call that a record does not run: anything. -/
def idleDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-- Both calls' proof data, at statistics `X`. -/
def pdats (X : Stats F) : (p : Fin 2) → (c : Dev nD) → Dat τ (Elt F) Unit ℕ UU ℕ (Pipeline.pin (pcfgs (F := F)) adm p) c
  | ⟨0, _⟩ => fun c => dat0 (E1 m) X c
  | ⟨1, _⟩ => fun c => dat1 (E2 m X) c

/-- Call 0's relational data, beside anything for call 1. -/
def rdats : (p : Fin 2) → (c : Dev nD) → RDat τ (Elt F) Unit ℕ UU ℕ (Pipeline.pin (pcfgs (F := F)) adm p) c
  | ⟨0, _⟩ => fun c => rdat0 (E1 m) c
  | ⟨1, _⟩ => fun c => (idleDat c).toR

/-- The core owes nothing, whatever its waits recorded. -/
abbrev Rr (c : Dev nD) : sProp 𝕄 := iprop(∃ W, owes (c : Thread nD τ) (0 : CellTallies nD τ sig Unit) W)

/-- The unscoped buffers at a valuation. -/
abbrev Held (W : Valuation τ sig (Elt F)) (c : Dev nD) : sProp 𝕄 := StableHlo.held (c : Thread nD τ) (Pipeline.ucRefs τ sig) W

/-- Statistics blocks of the right kind on core `c`. -/
abbrev Good (X : Stats F) (c : Dev nD) : Prop := ∀ t, Stat (E1 m) c t (X t)

set_option backward.isDefEq.respectTransparency.types false in
/-- CALL 0, from the arrays after the host's operations to the arrays at some statistics of the right kind. -/
def reg0 : RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body0 (E1 m) _ c).toRRel
  hwaits := Pipeline.RDat.hwaits_of_owed_zero _ _ _ _ L lv 0 fun _ _ => rfl
  pre c := iprop(Held (V1 m c) c ∗ Rr c)
  post c := iprop(∃ X, Held (W2 m X c) c ∗ ⌜Good m X c⌝ ∗ Rr c)
  X _ := BI.emp
  Y _ := BI.emp
  Z c := Pipeline.unscopedRest (Ix := Unit) (Name := ℕ) (U := UU) (Lvl := ℕ) spec0 c (E1 m c)
  hentry c := by
    rw [Pipeline.ownSems0_none]
    have hsplit : (unscopedBufs c (E1 m c) : sProp 𝕄) ⊢ iprop((rdats m 0 c).arrays (rdats m 0 c).A ∗ Pipeline.unscopedRest spec0 c (E1 m c)) :=
      Pipeline.arrays_of_unscopedBufs (p := 0) (pcfgs (F := F)) adm (pdats m anyStats) launch0.win
      launch0.arr_whole c ((pdats m anyStats 0 c).share_full fun _ => rfl) (E1 m c) fun _ => rfl
    rw [show Held (V1 m c) c = unscopedBufs c (E1 m c) from (Pipeline.unscopedBufs_held c (V1 m c)).symm]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (rdats m 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin (X : Stats F) : iprop((dat0 (E1 m) X c).arrays ((dat0 (E1 m) X c).arrAt · cfg0.N)
        ∗ Pipeline.unscopedRest (Ix := Unit) (Name := ℕ) (U := UU) (Lvl := ℕ) spec0 c (E1 m c)) ⊢ (unscopedBufs c (E2 m X c) : sProp 𝕄) :=
      Pipeline.unscopedBufs_of_arrays (p := 0) (pcfgs (F := F)) adm (Ix := Unit) (Name := ℕ) (U := UU) (Lvl := ℕ) launch0.win
      launch0.arr_whole c (pdats m X) ((pdats m X 0 c).share_full fun _ => rfl) (E1 m c) (E2 m X c) ((pdats m X 0 c).arrAt · cfg0.N)
      (fun w => by
        fin_cases w
        · exact ((pdats m X 0 c).arrAt_in 0 rfl _).trans (E2_of m X c main_arg0 (by decide) (by decide)).symm
        · exact ((pdats m X 0 c).arrAt_in 1 rfl _).trans (E2_of m X c main_v0 (by decide) (by decide)).symm
        · exact ((pdats m X 0 c).arrAt_in 2 rfl _).trans (E2_of m X c main_v3 (by decide) (by decide)).symm
        · exact (E2_gate m X c).symm
        · exact (E2_stat m X c).symm)
      (fun b hb => E2_of m X c b (fun h => hb (h ▸ Finset.mem_image.mpr ⟨3, Finset.mem_univ _, rfl⟩))
        (fun h => hb (h ▸ Finset.mem_image.mpr ⟨4, Finset.mem_univ _, rfl⟩)))
    have hx : (rdats m 0 c).arraysAt (Pipeline.pin (pcfgs (F := F)) adm 0).N ⊢ _ := exit0 (E1 m) c
    iintro ⟨Ha, HO, -, Hrest⟩
    ihave Ha := hx $$ Ha
    icases Ha with ⟨%X, Ha, %hX⟩
    imodintro
    iexists X
    isplitl [Ha Hrest]
    · rw [show Held (W2 m X c) c = unscopedBufs c (E2 m X c) from (Pipeline.unscopedBufs_held c (W2 m X c)).symm]
      iapply (hjoin X); isplitl [Ha] <;> iassumption
    isplitr; · ipureintro; exact hX
    unfold Pipeline.RDat.owesAt Pipeline.owesWithin
    icases HO with ⟨%W, -, HO⟩; iexists W; iexact HO

set_option backward.isDefEq.respectTransparency.types false in
/-- CALL 1, from the arrays at statistics `X` to the arrays with the indices computed from them. -/
def reg1 (X : Stats F) : Pipeline.RegionSeg (pcfgs (F := F)) adm (pdats m X) () defs₀ 𝒱₀ L lv 1 where
  win := launch1.win.to₀
  block_pos := launch1.block_pos
  stage_whole := launch1.stage_whole
  K := PEmpty
  osem k := k.elim
  ho := Pipeline.OwnSemFacts.none _
  hbody c := (body1 (E2 m X) c).loose
  hwaits := Pipeline.hwaits_of_owed_zero _ _ _ _ L lv 1 fun _ _ => rfl
  pre c := iprop(Held (W2 m X c) c ∗ Rr c)
  post c := iprop(Held (W3 m X c) c ∗ Rr c)
  X _ := BI.emp
  Y _ := BI.emp
  Z c := Pipeline.unscopedRest (Ix := Unit) (Name := ℕ) (U := UU) (Lvl := ℕ) spec1 c (E2 m X c)
  hentry c := by
    rw [Pipeline.ownSems0_none]
    have hsplit := Pipeline.arrays_of_unscopedBufs (p := 1) (pcfgs (F := F)) adm (pdats m X) launch1.win
      launch1.arr_whole c ((pdats m X 1 c).share_full fun _ => rfl) (E2 m X c) fun _ => rfl
    rw [show Held (W2 m X c) c = unscopedBufs c (E2 m X c) from (Pipeline.unscopedBufs_held c (W2 m X c)).symm]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m X 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pdats m X 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win
      launch1.arr_whole c (pdats m X) ((pdats m X 1 c).share_full fun _ => rfl) (E2 m X c) (E3 m X c) ((pdats m X 1 c).arrAt · cfg1.N)
      (fun w => by
        fin_cases w
        · exact ((pdats m X 1 c).arrAt_in 0 rfl _).trans (E3_of m X c main_v4_0 (by decide)).symm
        · exact ((pdats m X 1 c).arrAt_in 1 rfl _).trans (E3_of m X c main_v4_1 (by decide)).symm
        · exact (E3_pick m X c).symm)
      (fun b hb => E3_of m X c b fun h => hb (h ▸ Finset.mem_image.mpr ⟨2, Finset.mem_univ _, rfl⟩))
    iintro ⟨Ha, HO, -, Hrest⟩
    imodintro
    isplitl [Ha Hrest]
    · rw [show Held (W3 m X c) c = unscopedBufs c (E3 m X c) from (Pipeline.unscopedBufs_held c (W3 m X c)).symm]
      iapply hjoin; isplitl [Ha] <;> iassumption
    unfold Pipeline.Dat.owesAt Pipeline.owesWithin
    icases HO with ⟨%W, -, HO⟩; iexists W; iexact HO

end Cert.KernelIdeal.Run

end
-- ==== Proof.Run.lean ====
/-
  The whole program's run: from any memory with every semaphore at zero it ends, with every semaphore at zero again
  and every array at `W3 m X` for some statistics `X` of the right kind.

  The program is run as its own lifting over the labels of no host loops, whose run theorem takes a family of
  regions; what holds of the lifting holds of the program (`HostLoop.θ_run_of_lift`).
-/
module

public import proofs.«01_k».proof.Proof.Calls

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

/-- No host loops. -/
abbrev loops : Fin 0 → Prog (TpuEff nD τ sig (Elt F) (HostLoop.Sig (Pipeline.Sig Λ₀ (Fin 2) fun p => (pcfgs (F := F) p).Adm) 0) .tc) PUnit :=
  fun j => j.elim0

/-- One ticket for each call. -/
def tk : Fin 2 → Pipeline.Ticket (Ix := Unit) (Name := ℕ) (U := UU) (Lvl := ℕ) (nD := nD) (τ := τ) (pcfgs (F := F)) adm := fun j =>
  { p := j, pdats := fun _ c => idleDat c, EP := embAt j }

variable (m : (ℓ : Loc nD τ sig) → Buf (Elt F) ℓ)

abbrev KitSeg : Type 1 := Pipeline.CSeg (pcfgs (F := F)) adm defs₀ 𝒱₀ L lv loops tk

/-- The host's operations, then the two calls. -/
abbrev hostSeg : KitSeg (F := F) :=
  Pipeline.CSeg.ofOps _ _ _ _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Rr
abbrev callSeg0 : KitSeg (F := F) :=
  Pipeline.CSeg.regionAtR (pcfgs (F := F)) adm () cellOf_inj defs₀ 𝒱₀ L lv loops tk 0 (rdats m) (reg0 m)
abbrev callSeg1 : KitSeg (F := F) :=
  Pipeline.CSeg.regionF (pcfgs (F := F)) adm () cellOf_inj defs₀ 𝒱₀ L lv loops tk 1 (pdats m) (reg1 m) (Good m)

abbrev runSegs : List (KitSeg (F := F)) := [hostSeg m, callSeg0 m, callSeg1 m]

/-- The lifted program is the chain of the lifted items. -/
theorem main_chainL (c : Dev nD) : HostLoop.liftProg (L := 0) (main (F := F) c) = Pipeline.chain
    [ StableHlo.seq hostOps0,
      Prog.lift (.customCall (HostLoop.inner (Pipeline.entry 0)) ()),
      Prog.lift (.customCall (HostLoop.inner (Pipeline.entry 1)) ()) ] := by
  rw [Gen.main_chain, HostLoop.liftProg_chain]
  simp only [List.map_cons, List.map_nil, HostLoop.liftProg_seq]
  rfl

/-- What is left at the end: the arrays at some `W3`. -/
abbrev Tₙ (c : Dev nD) : sProp 𝕄 := iprop(∃ X, ⌜Good m X c⌝ ∗ Held (W3 m X c) c)

set_option backward.isDefEq.respectTransparency.types false in
/-- The segments chain. -/
theorem chains : Pipeline.CSeg.Chains (fun c => iprop(Held (V0 m c) c ∗ Rr c)) (runSegs m)
    fun c => iprop(Tₙ m c ∗ ∃ W, owes (c.tc : Thread nD τ) (0 : CellTallies nD τ sig Unit) W) := by
  refine ⟨fun _ => .rfl, fun _ => .rfl, fun c => ?_, fun c => ?_⟩
  · exact Pipeline.CSeg.regionF_pre (A := fun X => Held (W2 m X c) c) (E := Rr c) c fun X _ => .rfl
  · refine Pipeline.CSeg.regionF_post c fun X hX => ?_
    show iprop(Held (W3 m X c) c ∗ Rr c) ⊢ _
    iintro ⟨Hh, HO⟩
    isplitl [Hh]
    · iexists X; isplitr; · ipureintro; exact hX
      iexact Hh
    iexact HO

set_option backward.isDefEq.respectTransparency.types false in
/-- The lifted program's run. -/
theorem run_lift (g : Dev nD → PrngReg) :
    θ_run (HostLoop.defs (loops (F := F)) (Pipeline.defs pcfgs defs₀)) (onTc (τ := τ) fun c => HostLoop.liftProg (L := 0) (main (F := F) c)) ⟨m, fun _ => 0, g⟩
      (fun r => (∀ c : Dev nD, ∃ X, Good m X c ∧ ∀ b ∈ Pipeline.ucRefs τ sig, r.2.mem (c, b) = W3 m X c b) ∧ r.2.sem = fun _ => 0) :=
  Pipeline.θ_run_regions_loop_kit_sems (pcfgs (F := F)) adm cellOf_inj defs₀ 𝒱₀ L lv loops tk m g
    (fun c => HostLoop.liftProg (L := 0) (main (F := F) c)) (runSegs m)
    (fun c Q => by rw [main_chainL]; exact .rfl)
    (by
      refine List.pairwise_cons.mpr ⟨fun s hs => ?_, List.pairwise_cons.mpr ⟨fun s hs => ?_, List.pairwise_cons.mpr ⟨fun s hs => absurd hs (by simp), List.Pairwise.nil⟩⟩⟩
      · exact Finset.disjoint_empty_left _
      · obtain rfl := List.mem_singleton.mp hs
        exact Finset.disjoint_singleton.mpr (by decide))
    (O₀ := 0) (hL := fun _ _ => rfl) (G := fun _ => BI.emp)
    (u₀ := (fun _ => initOf (Pipeline.cells (Pipeline.pin (pcfgs (F := F)) adm) cellOf_inj) (Pipeline.launchToks (Pipeline.pin (pcfgs (F := F)) adm) cellOf_inj), 1))
    (hu₀ := by
      iintro Hu
      ihave H := (ownU_pair _ _) $$ Hu
      icases H with ⟨HX, -⟩
      imodintro
      isplitl [HX]
      · iapply (own_iprod (B := Counters) (fun _ : Fin 2 => initOf (Pipeline.cells (Pipeline.pin (pcfgs (F := F)) adm) cellOf_inj) (Pipeline.launchToks (Pipeline.pin (pcfgs (F := F)) adm) cellOf_inj)))
        iexact HX
      iapply (show (BI.emp : sProp 𝕄) ⊢ bigSep Finset.univ (fun _ : Dev nD => BI.emp) from by rw [BI.bigSep_emp_const])
      iempintro)
    (T₀ := fun c => iprop(Held (V0 m c) c ∗ Rr c)) (Tₙ := Tₙ m)
    (hch := chains m)
    (hinit := by
      refine Pipeline.initEach L lv fun c => ?_
      rw [show unscopedBufs c (fun b => m ((c.tc : Thread nD τ).loc b)) = Held (V0 m c) c from Pipeline.unscopedBufs_held c (V0 m c)]
      iintro ⟨⟨Hh, -, HO, -, -, -⟩, -⟩
      imodintro
      isplitl [Hh]; · iexact Hh
      iexists ∅; iexact HO)
    (QY := fun c s => ∃ X, Good m X c ∧ ∀ b ∈ Pipeline.ucRefs τ sig, s.mem (c, b) = W3 m X c b)
    (hfin := fun c s' => by
      unfold Tₙ Held StableHlo.held
      iintro ⟨⟨%X, %hX, Hh⟩, HSI⟩
      ihave Hr := (pointsTo_read_all (Pipeline.ucRefs τ sig) (fun b => ((c : Thread nD τ).1, b)) (W3 m X c) s') $$ [Hh HSI]
      · isplitl [Hh] <;> iassumption
      icases Hr with ⟨%h, HSI⟩
      imodintro
      isplitr; · ipureintro; exact ⟨X, hX, h⟩
      iexact HSI)
    (hQ := fun _ h hz => ⟨h, funext fun g => hz g (.inr (regions_no_unscoped g.2))⟩)

/-- THE RUN. -/
theorem run (g : Dev nD → PrngReg) : θ_run defs (onTc (τ := τ) (main (F := F))) ⟨m, fun _ => 0, g⟩
    (fun r => (∀ c : Dev nD, ∃ X, Good m X c ∧ ∀ b ∈ Pipeline.ucRefs τ sig, r.2.mem (c, b) = W3 m X c b) ∧ r.2.sem = fun _ => 0) :=
  HostLoop.θ_run_of_lift loops _ main _ _ (run_lift m g)

/-- The run, at the arguments and the result. -/
theorem run_value (g : Dev nD → PrngReg) : θ_run defs (onTc (τ := τ) (main (F := F))) ⟨m, fun _ => 0, g⟩
    (fun r => (∀ c : Dev nD, (∃ X, Good m X c ∧ r.2.mem ((c.tc : Thread nD τ).loc main_v5) = pickArr m X c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) := by
  refine (θ_run defs _ _).mono (fun r hr => ⟨fun c => ?_, hr.2⟩) (run m g)
  obtain ⟨X, hX, h⟩ := hr.1 c
  have arg (b : Ref sig .tc) (hu : (Proc.devRef .tc b : DevRef τ sig) ∈ Pipeline.ucRefs τ sig)
      (h5 : b ≠ main_v5) (h40 : b ≠ main_v4_0) (h41 : b ≠ main_v4_1) (hw : b ∉ hostOps0_W) :
      r.2.mem ((c.tc : Thread nD τ).loc b) = m ((c.tc : Thread nD τ).loc b) :=
    (h _ hu).trans ((E3_of m X c b h5).trans ((E2_of m X c b h40 h41).trans (V1_of m c b hw)))
  refine ⟨⟨X, hX, ?_⟩, ?_, ?_, ?_⟩
  · exact (h _ (Finset.mem_filter.mpr ⟨StableHlo.devRef_mem_tcRefs main_v5, by decide⟩)).trans (E3_pick m X c)
  · exact arg _ (Finset.mem_filter.mpr ⟨StableHlo.devRef_mem_tcRefs main_arg0, by decide⟩) (by decide) (by decide) (by decide) (by decide)
  · exact arg _ (Finset.mem_filter.mpr ⟨StableHlo.devRef_mem_tcRefs main_arg1, by decide⟩) (by decide) (by decide) (by decide) (by decide)
  · exact arg _ (Finset.mem_filter.mpr ⟨StableHlo.devRef_mem_tcRefs main_arg2, by decide⟩) (by decide) (by decide) (by decide) (by decide)

end Cert.KernelIdeal.Run

end
-- ==== Proof.Frames.lean ====
/-
  The frames: each program ends with its arguments unchanged and every semaphore back at zero. The kernel at the
  bits is the same text as its idealization, so its frame is the same run read at the bits.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import Idealize.ShloMosaic.Lib.Quiescent

@[expose] public section

noncomputable section

namespace Cert.Proof

open Idealize.ShloMosaic Idealize.ShloMosaic.TcCoe Idealize.SL.Sem

/-- The run at any float type, at the arguments alone. -/
theorem kernel_frame {F : FTy → Type} [FloatOps F] (m : (ℓ : Loc KernelIdeal.nD KernelIdeal.τ KernelIdeal.sig) → Buf (Elt F) ℓ)
    (g : Dev KernelIdeal.nD → PrngReg) :
    θ_run (KernelIdeal.defs (F := F)) (onTc (τ := KernelIdeal.τ) (KernelIdeal.main (F := F))) ⟨m, fun _ => 0, g⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0) :=
  (θ_run KernelIdeal.defs _ _).mono (fun _ hr => ⟨fun c => (hr.1 c).2, hr.2⟩) (KernelIdeal.Run.run_value m g)

/-- The two programs call the same kernel functions. -/
theorem bodies_eq : Kernel.defs₀ (F := Bits) = KernelIdeal.defs₀ (F := Bits) := by
  unfold Kernel.defs₀ KernelIdeal.defs₀
  congr 1
  funext l x
  fin_cases l <;> rfl

/-- The two programs have the same table of bodies. -/
theorem defs_eq : Kernel.defs (F := Bits) = KernelIdeal.defs (F := Bits) :=
  congrArg (Pipeline.defs (KernelIdeal.pcfgs (F := Bits))) bodies_eq

/-- The two programs have the same main. -/
theorem main_eq : onTc (τ := Kernel.τ) (Kernel.main (F := Bits)) = onTc (τ := KernelIdeal.τ) (KernelIdeal.main (F := Bits)) := rfl

/-- The kernel leaves its arguments and its counters as they were. -/
theorem quiescent_kernel : quiescent_Kernel := by
  intro m g _
  rw [defs_eq, main_eq]
  exact kernel_frame (F := Bits) m g

/-- So does its idealization. -/
theorem quiescent_kernelIdeal : quiescent_KernelIdeal := fun m g _ => kernel_frame (F := Ideal) m g

/-- The reference has no semaphores, so they end at zero. -/
theorem quiescent_referenceIdeal : quiescent_ReferenceIdeal := fun m g _ =>
  (θ_run ReferenceIdeal.defs _ _).mono
    (fun r hr => ⟨fun c => (hr c).2, sem_eq_zero_of_no_sems rfl r.2⟩)
    (ReferenceIdeal.Value.run m g)

end Cert.Proof

end
-- ==== Proof.Finite.lean ====
/-
  The precondition: every element of the three arguments is a real number.
-/
module

public import proofs.«01_k».proof.Pre_inputs_finite
public import Idealize.ShloMosaic.Lib.Pointwise

@[expose] public section

noncomputable section

namespace Cert.Finite

open Idealize.ShloMosaic Cert.Pre_inputs_finite

/-- The precondition's shape relations hold. -/
theorem facts : Cert.Pre_inputs_finite.Facts where
  bcast_S_S8192x4096 := by decide
  bcast_S_S64x4096 := by decide
  bcast_S_S64 := by decide

/-- The pattern of positive infinity. -/
theorem pos_inf : Ideal.ofBits .f32 0x7F800000#32 = ⊤ := by simp [Ideal.ofBits, Ideal.ieee]

/-- An extended real whose absolute value is less than infinity is real. -/
theorem real_of_abs_lt (v : EReal) (h : max v (-v) < ⊤) : ∃ r : ℝ, v = (r : EReal) := by
  induction v using EReal.rec with
  | bot => exact absurd h (by simp)
  | coe r => exact ⟨r, rfl⟩
  | top => exact absurd h (by simp)

/-- One element's test, passed. -/
theorem real_of_test (v : EReal) (h : BitVec.ofBool (decide (max v (-v) < ⊤)) = 1#1) : ∃ r : ℝ, v = (r : EReal) :=
  real_of_abs_lt v (by
    by_contra hn
    rw [decide_eq_false hn] at h
    exact absurd h (by decide))

variable (x : Vec Ideal S8192x4096 .f32) (w : Vec Ideal S64x4096 .f32) (b : Vec Ideal S64 .f32)

/-- What the precondition says of the three arguments. -/
theorem reals [hF : Cert.Pre_inputs_finite.Facts]
    (h : (fn (F := Ideal) x w b).1 = (fun _ => 1#1) ∧ (fn (F := Ideal) x w b).2.1 = (fun _ => 1#1)
      ∧ (fn (F := Ideal) x w b).2.2 = (fun _ => 1#1)) :
    (∀ t k, ∃ r : ℝ, x (ix2 t k) = (r : EReal)) ∧ (∀ e k, ∃ r : ℝ, w (ix2 e k) = (r : EReal))
      ∧ (∀ e, ∃ r : ℝ, b (ix1 e) = (r : EReal)) := by
  refine ⟨fun t k => real_of_test _ ?_, fun e k => real_of_test _ ?_, fun e => real_of_test _ ?_⟩
  · rw [← pos_inf, ← congrFun h.1 (ix2 t k)]; rfl
  · rw [← pos_inf, ← congrFun h.2.1 (ix2 e k)]; rfl
  · rw [← pos_inf, ← congrFun h.2.2 (ix1 e)]; rfl

end Cert.Finite

end
-- ==== Proof.Rounds.lean ====
/-
  Taking the greatest entry of a row again and again lists the row's positions as a stable sort does.

  One round takes the first position holding the row's greatest value (`firstMax`) and puts the bottom value there
  (`knocked`). `roundRow s r` is the row after `r` rounds and `roundPick s r` the position round `r` takes. If every
  entry of the row is above the bottom, the first rounds take different positions, in the order of the stable sort by
  falling value (`sortedFrom_eq_roundPick`).
-/
module

public import Idealize.ShloMosaic.Lib.SortPrefix
public import Idealize.ShloMosaic.PureOps.Ideal

@[expose] public section

noncomputable section

namespace Cert.Rounds

open Idealize.ShloMosaic

variable {n : ℕ}

/-- Position `i` is the first at which the row is greatest. -/
def IsFirstMax (s : Fin n → EReal) (i : Fin n) : Prop := (∀ e, s e ≤ s i) ∧ ∀ e, e < i → s e < s i

/-- A row that is not empty has such a position. -/
theorem exists_firstMax [NeZero n] (s : Fin n → EReal) : ∃ i, IsFirstMax s i := by
  classical
  obtain ⟨m, -, hm⟩ := Finset.exists_max_image Finset.univ s Finset.univ_nonempty
  have hne : (Finset.univ.filter fun e => s e = s m).Nonempty := ⟨m, by simp⟩
  have hmem := Finset.min'_mem _ hne
  have heq := (Finset.mem_filter.mp hmem).2
  refine ⟨_, fun e => by rw [heq]; exact hm e (Finset.mem_univ e), fun e he => ?_⟩
  refine lt_of_le_of_ne (by rw [heq]; exact hm e (Finset.mem_univ e)) fun h => ?_
  exact absurd (Finset.min'_le _ e (by simp [h, heq])) (not_le.mpr he)

/-- There is only one. -/
theorem IsFirstMax.unique {s : Fin n → EReal} {i j : Fin n} (hi : IsFirstMax s i) (hj : IsFirstMax s j) : i = j := by
  rcases lt_trichotomy i j with h | h | h
  · exact absurd (hj.2 i h) (not_lt.mpr (hi.1 j))
  · exact h
  · exact absurd (hi.2 j h) (not_lt.mpr (hj.1 i))

/-- The first position at which the row is greatest. -/
def firstMax [NeZero n] (s : Fin n → EReal) : Fin n := (exists_firstMax s).choose

theorem firstMax_spec [NeZero n] (s : Fin n → EReal) : IsFirstMax s (firstMax s) := (exists_firstMax s).choose_spec

theorem firstMax_eq [NeZero n] {s : Fin n → EReal} {i : Fin n} (h : IsFirstMax s i) : firstMax s = i :=
  (firstMax_spec s).unique h

/-- The row with that position put to the bottom value. -/
def knocked [NeZero n] (s : Fin n → EReal) : Fin n → EReal := fun e => if e = firstMax s then ⊥ else s e

/-- The row after `r` rounds. -/
def roundRow [NeZero n] (s : Fin n → EReal) : ℕ → Fin n → EReal
  | 0 => s
  | r + 1 => knocked (roundRow s r)

/-- The position round `r` takes. -/
def roundPick [NeZero n] (s : Fin n → EReal) (r : ℕ) : Fin n := firstMax (roundRow s r)

variable [NeZero n] (s : Fin n → EReal)

/-- A taken position holds the bottom value afterwards. -/
theorem roundRow_taken {r j : ℕ} (h : j < r) : roundRow s r (roundPick s j) = ⊥ := by
  induction r with
  | zero => exact absurd h (Nat.not_lt_zero j)
  | succ r ih =>
    show (if roundPick s j = firstMax (roundRow s r) then (⊥ : EReal) else roundRow s r (roundPick s j)) = ⊥
    split
    · rfl
    · rename_i hne
      rcases Nat.lt_succ_iff_lt_or_eq.mp h with h' | h'
      · exact ih h'
      · subst h'; exact absurd rfl hne

/-- A position not taken yet holds its entry. -/
theorem roundRow_left {r : ℕ} {e : Fin n} (h : ∀ j, j < r → roundPick s j ≠ e) : roundRow s r e = s e := by
  induction r with
  | zero => rfl
  | succ r ih =>
    show (if e = firstMax (roundRow s r) then (⊥ : EReal) else roundRow s r e) = s e
    rw [if_neg fun he => h r (Nat.lt_succ_self r) he.symm, ih fun j hj => h j (Nat.lt_succ_of_lt hj)]

variable (hs : ∀ e, ⊥ < s e)
include hs

/-- A round takes a position no earlier round took. -/
theorem roundPick_ne {r j : ℕ} (hr : r < n) (h : j < r) : roundPick s j ≠ roundPick s r := by
  intro he
  have hbot : roundRow s r (roundPick s r) = ⊥ := he ▸ roundRow_taken s h
  obtain ⟨e, he⟩ : ∃ e : Fin n, ∀ j : Fin r, roundPick s j ≠ e := by
    by_contra hc
    push Not at hc
    have hsurj : Function.Surjective fun j : Fin r => roundPick s j := hc
    have := Fintype.card_le_of_surjective _ hsurj
    simp only [Fintype.card_fin] at this
    omega
  have h1 := (firstMax_spec (roundRow s r)).1 e
  rw [roundRow_left s fun j hj => he ⟨j, hj⟩] at h1
  have h2 : s e ≤ ⊥ := h1.trans_eq hbot
  exact absurd (hs e) (not_lt.mpr h2)

/-- What a round takes is not behind any position left over. -/
theorem roundPick_first {r : ℕ} (hr : r < n) {p : Fin n} (hp : ∀ j, j < r → roundPick s j ≠ p) :
    s p ≤ s (roundPick s r) ∧ (p < roundPick s r → s p < s (roundPick s r)) := by
  have h := firstMax_spec (roundRow s r)
  have e1 : roundRow s r (firstMax (roundRow s r)) = s (roundPick s r) :=
    roundRow_left s fun j hj => roundPick_ne s hs hr hj
  refine ⟨?_, fun hlt => ?_⟩
  · have := h.1 p
    rwa [e1, roundRow_left s hp] at this
  · have := h.2 p hlt
    rwa [e1, roundRow_left s hp] at this

end Cert.Rounds

/-! ## The sort -/

namespace Cert.Rounds

open Idealize.ShloMosaic

/-- A stable sort compares an element only with elements that stood after it. -/
theorem stableSort_eq_of_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

variable {n : ℕ}

/-- So the stable sort by falling value is the sort by falling value and then by position. -/
theorem sortedFrom_eq_of_later (R R' : Fin n → Fin n → Bool) (h : ∀ p q : Fin n, p < q → R q p = R' q p) :
    sortedFrom R = sortedFrom R' := by
  have e : sortPositions n R = sortPositions n R' :=
    stableSort_eq_of_later R R' _ ((List.pairwise_lt_finRange n).imp fun hab => h _ _ hab)
  funext k
  unfold sortedFrom
  rw [List.get_of_eq e]
  rfl

/-- The stable sort by falling value puts at place `k` the position that round `k` takes. -/
theorem sortedFrom_eq_roundPick [NeZero n] (s : Fin n → EReal) (hs : ∀ e, ⊥ < s e) (R : Fin n → Fin n → Bool)
    (hR : ∀ p q, R p q = decide (s q < s p)) {k : ℕ} (hk : k ≤ n) (i : Fin k) :
    sortedFrom R (i.castLE hk) = roundPick s i := by
  classical
  set B : Fin n → Fin n → Bool := fun p q => decide (s q < s p) || (decide (s p = s q) && decide (p < q)) with hB
  have hBt : StrictTotalBefore B :=
    StrictTotalBefore.of_key_then_position (fun a b : EReal => decide (b < a)) s (fun a => by simp)
      (fun a b c h1 h2 => by simp only [decide_eq_true_eq] at *; exact h2.trans h1)
      (fun a b => by
        rcases lt_trichotomy a b with h | h | h
        · exact .inr (.inr (by simpa using h))
        · exact .inr (.inl h)
        · exact .inl (by simpa using h))
  have e : sortedFrom R = sortedFrom B := sortedFrom_eq_of_later R B fun p q hpq => by
    rw [hR, hB]; simp [not_lt.mpr hpq.le]
  have key : ∀ (r : ℕ), r < n → ∀ p, (∀ j, j < r → roundPick s j ≠ p) → B p (roundPick s r) = false := by
    intro r hr p hp
    have h := roundPick_first s hs hr hp
    simp only [hB, Bool.or_eq_false_iff, decide_eq_false_iff_not, Bool.and_eq_false_iff, not_lt]
    refine ⟨h.1, ?_⟩
    by_cases hpq : p < roundPick s r
    · exact .inl (h.2 hpq).ne
    · exact .inr (not_lt.mp hpq)
  rw [e]
  refine hBt.sortedFrom_eq_of_prefix hk (fun j : Fin k => roundPick s j) ?_ ?_ ?_ i
  · intro a b hab
    by_contra hne
    rcases lt_or_gt_of_ne hne with h | h
    · exact roundPick_ne s hs (by omega) h hab
    · exact roundPick_ne s hs (by omega) h hab.symm
  · intro a b hab
    exact key a (by omega) _ fun j hj => roundPick_ne s hs (by omega) (lt_trans hj hab)
  · intro a p hp
    exact key a (by omega) p fun j hj => hp ⟨j, by omega⟩

end Cert.Rounds

end
-- ==== Proof.Pick.lean ====
/-
  The block of chosen experts, read at a token and a place.

  The second kernel repeats one round eight times: take each row's greatest value (`pickCol`, the first position that
  holds it), and put the bottom value there (`knock`). `pickBlk_apply`: at token `t` and place `k` the block holds the
  position that round `k` takes from the row of scores.
-/
module

public import proofs.«01_k».proof.Proof.Body
public import proofs.«01_k».proof.Proof.Rounds
public import Idealize.ShloMosaic.Lib.Pointwise

@[expose] public section

noncomputable section

namespace Cert.KernelIdeal.Run

open Cert.KernelIdeal Cert.KernelIdeal.Gen Cert.Rounds
open Idealize.ShloMosaic

/-! ## One round as the kernel writes it -/

section Text

variable {F : FTy → Type} [FloatOps F]

/-- The position number of each entry. -/
def places : IVec S512x64 32 := iota .tc S512x64 32 [1] iota_S512x64_d1_w32

/-- Each row's first position that holds the row's greatest value. -/
def pickCol (s : FVec F S512x64 .f32) : IVec S512x1 32 :=
  shapeCast S512x1 (multiReductionI .minsi [1] S512
    (select (cmpf .oeq s (broadcastTo S512x64 (shapeCast S512x1
        (multiReduction .maximumf [1] S512 s 0xFF800000#32 reduces_S512x64_S512 (.inl rfl) rfl)
        shapeCasts_S512_S512x1) broadcasts_S512x1_S512x64))
      places (broadcast S512x64 64#32))
    2147483647#32 reduces_S512x64_S512 rfl) shapeCasts_S512_S512x1

/-- The rows with those positions put to the bottom value. -/
def knock (s : FVec F S512x64 .f32) : FVec F S512x64 .f32 :=
  select (cmpi .eq places (broadcastTo S512x64 (pickCol s) broadcasts_S512x1_S512x64))
    (broadcast S512x64 (Scalar.ofBits .f32 0xFF800000#32)) s

/-- The rows after `r` rounds. -/
def knocks (s : FVec F S512x64 .f32) : ℕ → FVec F S512x64 .f32
  | 0 => s
  | r + 1 => knock (knocks s r)

/-- The score of each token at each expert. -/
def scoreBlk (g : Vec F S512x64 .f32) (st : Vec F S128x64 .f32) : FVec F S512x64 .f32 := k1_pay2 st g

/-- The block of chosen experts is the eight rounds' positions side by side. -/
theorem pickBlk_eq (g : Vec F S512x64 .f32) (st : Vec F S128x64 .f32) :
    pickBlk g st = concatenate S512x8 1
      [⟨S512x1, pickCol (knocks (scoreBlk g st) 0)⟩, ⟨S512x1, pickCol (knocks (scoreBlk g st) 1)⟩,
        ⟨S512x1, pickCol (knocks (scoreBlk g st) 2)⟩, ⟨S512x1, pickCol (knocks (scoreBlk g st) 3)⟩,
        ⟨S512x1, pickCol (knocks (scoreBlk g st) 4)⟩, ⟨S512x1, pickCol (knocks (scoreBlk g st) 5)⟩,
        ⟨S512x1, pickCol (knocks (scoreBlk g st) 6)⟩, ⟨S512x1, pickCol (knocks (scoreBlk g st) 7)⟩]
      concatenates_S512x1_S512x1_S512x1_S512x1_S512x1_S512x1_S512x1_S512x1_S512x8_d1 := rfl

end Text

/-! ## One round, row by row -/

/-- The bottom value as the kernel writes it. -/
theorem neg_inf : Ideal.ofBits .f32 0xFF800000#32 = ⊥ := by simp [Ideal.ofBits, Ideal.ieee]

/-- The row of a block. -/
def rowOf (s : FVec Ideal S512x64 .f32) (t : Fin 512) : Fin 64 → EReal := fun e => s (ix2 t e)

/-- The greatest value of a row is the value at the first position that holds it. -/
theorem fold_max_eq {n : ℕ} [NeZero n] (f : Fin n → EReal) : Finset.univ.fold max ⊥ f = f (firstMax f) := by
  apply le_antisymm
  · exact Finset.fold_max_le _ |>.mpr ⟨bot_le, fun e _ => (firstMax_spec f).1 e⟩
  · exact Finset.le_fold_max _ |>.mpr (.inr ⟨_, Finset.mem_univ _, le_rfl⟩)

/-- The lesser of two words read as signed numbers. -/
theorem toInt_minsi (x y : BitVec 32) : (IntOp.minsi x y).toInt = min x.toInt y.toInt := by
  unfold IntOp.minsi
  rw [BitVec.slt_eq_decide]
  split
  · rename_i h; rw [min_eq_left (decide_eq_true_eq.mp h).le]
  · rename_i h; rw [min_eq_right (not_lt.mp fun h' => h (decide_eq_true_eq.mpr h'))]

/-- The least of a row of words, when one of them is known to be it. -/
theorem fold_minsi_eq {n : ℕ} (b : BitVec 32) (f : Fin n → BitVec 32) (i : Fin n) (hb : (f i).toInt ≤ b.toInt)
    (h : ∀ e, (f i).toInt ≤ (f e).toInt) : Finset.univ.fold IntOp.minsi b f = f i := by
  apply BitVec.eq_of_toInt_eq
  have e1 : (Finset.univ.fold IntOp.minsi b f).toInt = Finset.univ.fold min b.toInt fun e => (f e).toInt :=
    (Finset.fold_hom (m := BitVec.toInt) toInt_minsi).symm
  rw [e1]
  apply le_antisymm
  · exact Finset.fold_min_le _ |>.mpr (.inr ⟨i, Finset.mem_univ _, le_rfl⟩)
  · exact Finset.le_fold_min _ |>.mpr ⟨hb, fun e _ => h e⟩

/-- A position number as a signed word. -/
theorem toInt_place (e : Fin 64) : (BitVec.ofNat 32 e.val).toInt = e.val := by revert e; decide

/-- The first position that holds a row's greatest value. -/
theorem pickCol_apply (s : FVec Ideal S512x64 .f32) (t : Fin 512) :
    pickCol s (ix2 t 0) = BitVec.ofNat 32 (firstMax (rowOf s t)).val := by
  pointwise [pickCol, places]
  rw [neg_inf, fold_max_eq (fun e => s (ix2 t e))]
  have hm := firstMax_spec (rowOf s t)
  refine (fold_minsi_eq _ _ (firstMax (rowOf s t)) ?_ fun e => ?_).trans (if_pos rfl)
  · rw [if_pos (by rfl), toInt_place]
    have := (firstMax (rowOf s t)).isLt
    have h2 : (2147483647#32).toInt = 2147483647 := by decide
    omega
  · rw [if_pos (by rfl), toInt_place]
    split
    · rename_i he
      rw [toInt_place]
      by_contra hlt
      have hlt' : e < firstMax (rowOf s t) := by
        rw [Fin.lt_def]; omega
      exact absurd he (hm.2 e hlt').ne
    · have := (firstMax (rowOf s t)).isLt
      have h2 : (64#32).toInt = 64 := by decide
      omega

/-- The row after the round. -/
theorem rowOf_knock (s : FVec Ideal S512x64 .f32) (t : Fin 512) : rowOf (knock s) t = knocked (rowOf s t) := by
  funext e
  show knock s (ix2 t e) = if e = firstMax (rowOf s t) then ⊥ else s (ix2 t e)
  have h : knock s (ix2 t e) = Scalar.select (IntOp.cmpi .eq (BitVec.ofNat 32 e.val) (pickCol s (ix2 t 0)))
      (Ideal.ofBits .f32 0xFF800000#32) (s (ix2 t e)) := by pointwise [knock, places]
  rw [h, pickCol_apply, neg_inf]
  by_cases he : e = firstMax (rowOf s t)
  · rw [if_pos he, ← he]
    simp [Scalar.select, IntOp.cmpi]
  · rw [if_neg he]
    have hne : BitVec.ofNat 32 e.val ≠ BitVec.ofNat 32 (firstMax (rowOf s t)).val := fun h' => by
      have := congrArg BitVec.toInt h'
      rw [toInt_place, toInt_place] at this
      exact he (Fin.ext (by exact_mod_cast this))
    have hb := beq_eq_false_iff_ne.mpr hne
    simp only [Scalar.select, IntOp.cmpi, hb]
    rfl

/-- The row after `r` rounds. -/
theorem rowOf_knocks (s : FVec Ideal S512x64 .f32) (t : Fin 512) (r : ℕ) :
    rowOf (knocks s r) t = roundRow (rowOf s t) r := by
  induction r with
  | zero => rfl
  | succ r ih =>
    show rowOf (knock (knocks s r)) t = knocked (roundRow (rowOf s t) r)
    rw [rowOf_knock, ih]

/-- The block's entry at a token and a place is the pick of that place's round. -/
theorem pickBlk_col (g : Vec Ideal S512x64 .f32) (st : Vec Ideal S128x64 .f32) (t : Fin 512) (k : Fin 8) :
    pickBlk g st (ix2 t k) = pickCol (knocks (scoreBlk g st) k.val) (ix2 t 0) := by
  rw [pickBlk_eq]
  fin_cases k <;> pointwise []

/-- The same, over the row of scores. -/
theorem pickBlk_apply (g : Vec Ideal S512x64 .f32) (st : Vec Ideal S128x64 .f32) (t : Fin 512) (k : Fin 8) :
    pickBlk g st (ix2 t k) = BitVec.ofNat 32 (roundPick (rowOf (scoreBlk g st) t) k.val).val := by
  rw [pickBlk_col, pickCol_apply, rowOf_knocks]
  rfl

end Cert.KernelIdeal.Run

end
-- ==== Proof.Softmax.lean ====
/-
  The softmax of a column taken in blocks.

  A column of real values is cut into 16 blocks of 512. From each block come its greatest value and the sum of its
  exponentials less that value; from these the column's greatest value `m` and, each block's sum rescaled, the column's sum
  `s`. A value less `m + log s` is then the logarithm of its softmax taken over the whole column (`softmax_eq_exp`), so
  it orders the experts as the softmax does.
-/
module

public import Idealize.ShloMosaic.PureOps.Ideal

@[expose] public section

noncomputable section

namespace Cert.Softmax

open Idealize.ShloMosaic

/-- Token `t` of block `i`. -/
def tok (i : Fin 16) (t : Fin 512) : Fin 8192 := ⟨i.val * 512 + t.val, by omega⟩

/-- Every token is one of some block. -/
theorem tok_surj (n : Fin 8192) : ∃ i t, tok i t = n :=
  ⟨⟨n.val / 512, by omega⟩, ⟨n.val % 512, by omega⟩, Fin.ext (by show n.val / 512 * 512 + n.val % 512 = n.val; omega)⟩

/-- A sum over the tokens is the sum over the blocks of the sums over their tokens. -/
theorem sum_tok (f : Fin 8192 → ℝ) : ∑ n, f n = ∑ i, ∑ t, f (tok i t) := by
  rw [← Fintype.sum_prod_type']
  refine (Fintype.sum_bijective (fun p : Fin 16 × Fin 512 => tok p.1 p.2) ⟨?_, ?_⟩ _ _ fun _ => rfl).symm
  · rintro ⟨i, t⟩ ⟨j, u⟩ h
    have h' : i.val * 512 + t.val = j.val * 512 + u.val := congrArg Fin.val h
    exact Prod.ext (Fin.ext (by show i.val = j.val; omega)) (Fin.ext (by show t.val = u.val; omega))
  · intro n
    obtain ⟨i, t, h⟩ := tok_surj n
    exact ⟨(i, t), h⟩

/-- The greatest of finitely many real values. -/
def top {α : Type} [Fintype α] [Nonempty α] (f : α → ℝ) : ℝ := Finset.univ.sup' Finset.univ_nonempty f

theorem le_top {α : Type} [Fintype α] [Nonempty α] (f : α → ℝ) (a : α) : f a ≤ top f :=
  Finset.le_sup' f (Finset.mem_univ a)

theorem top_le {α : Type} [Fintype α] [Nonempty α] (f : α → ℝ) (c : ℝ) (h : ∀ a, f a ≤ c) : top f ≤ c :=
  Finset.sup'_le _ _ fun a _ => h a

/-- Folding the maximum over real values gives their greatest. -/
theorem fold_max_coe {α : Type} [Fintype α] [Nonempty α] (f : α → ℝ) :
    Finset.univ.fold max (⊥ : EReal) (fun a => (f a : EReal)) = (top f : EReal) := by
  apply le_antisymm
  · exact (Finset.fold_max_le _).mpr ⟨bot_le, fun a _ => EReal.coe_le_coe_iff.mpr (le_top f a)⟩
  · obtain ⟨a, ha, h⟩ := Finset.exists_mem_eq_sup' Finset.univ_nonempty f
    exact (Finset.le_fold_max _).mpr (.inr ⟨a, ha, by rw [top, h]⟩)

/-- The greatest value of the blocks' greatest values is the column's. -/
theorem top_top (f : Fin 8192 → ℝ) : top (fun i => top fun t => f (tok i t)) = top f := by
  apply le_antisymm
  · exact top_le _ _ fun i => top_le _ _ fun t => le_top f _
  · refine top_le _ _ fun n => ?_
    obtain ⟨i, t, rfl⟩ := tok_surj n
    exact (le_top (fun t => f (tok i t)) t).trans (le_top (fun i => top fun t => f (tok i t)) i)

/-- The sum of exponentials less the greatest value. -/
def mass {α : Type} [Fintype α] [Nonempty α] (f : α → ℝ) : ℝ := ∑ a, Real.exp (f a - top f)

theorem mass_pos {α : Type} [Fintype α] [Nonempty α] (f : α → ℝ) : 0 < mass f :=
  Finset.sum_pos (fun _ _ => Real.exp_pos _) Finset.univ_nonempty

/-- A sum of real values, summed as extended reals. -/
theorem coe_sum {α : Type} [Fintype α] (f : α → ℝ) : ∑ a, (f a : EReal) = ((∑ a, f a : ℝ) : EReal) := by
  classical
  induction (Finset.univ : Finset α) using Finset.induction_on with
  | empty => simp
  | insert a s ha ih => rw [Finset.sum_insert ha, Finset.sum_insert ha, ih, EReal.coe_add]

/-- The sum of exponentials, as extended reals. -/
theorem sum_exp_coe {α : Type} [Fintype α] [Nonempty α] (f : α → ℝ) :
    ∑ a, Ideal.exp ((f a : EReal) - (top f : EReal)) = (mass f : EReal) := by
  rw [mass, ← coe_sum]
  exact Finset.sum_congr rfl fun a _ => by rw [← EReal.coe_sub, Ideal.exp_coe]

/-- The blocks' sums, each rescaled from its block's greatest value to the column's, make up the column's sum. -/
theorem sum_mass (f : Fin 8192 → ℝ) :
    ∑ i, mass (fun t => f (tok i t)) * Real.exp (top (fun t => f (tok i t)) - top f) = mass f := by
  rw [mass, sum_tok]
  refine Finset.sum_congr rfl fun i _ => ?_
  rw [mass, Finset.sum_mul]
  refine Finset.sum_congr rfl fun t _ => ?_
  rw [← Real.exp_add]
  congr 1
  ring

/-- The same sum over extended reals. -/
theorem sum_mass_coe (f : Fin 8192 → ℝ) :
    ∑ i, (mass (fun t => f (tok i t)) : EReal) * Ideal.exp ((top (fun t => f (tok i t)) : EReal) - (top f : EReal))
      = (mass f : EReal) := by
  rw [← sum_mass f, ← coe_sum]
  exact Finset.sum_congr rfl fun i _ => by rw [← EReal.coe_sub, Ideal.exp_coe, EReal.coe_mul]

/-- The logarithm of a value's softmax over the column. -/
def logit (f : Fin 8192 → ℝ) (n : Fin 8192) : ℝ := f n - (top f + Real.log (mass f))

/-- The score: a value less the greatest value and the logarithm of the sum. -/
theorem score_eq (f : Fin 8192 → ℝ) (n : Fin 8192) :
    (f n : EReal) - ((top f : EReal) + Ideal.log (mass f : EReal)) = (logit f n : EReal) := by
  rw [Ideal.log_coe, if_neg (not_le.mpr (mass_pos f)), ← EReal.coe_add, ← EReal.coe_sub, logit]

/-- The softmax is the exponential of the score. -/
theorem softmax_eq_exp (f : Fin 8192 → ℝ) (n : Fin 8192) :
    Ideal.div (Ideal.exp ((f n : EReal) - (top f : EReal))) (mass f : EReal) = (Real.exp (logit f n) : EReal) := by
  have h0 : (mass f : EReal) ≠ 0 := by exact_mod_cast (mass_pos f).ne'
  rw [Ideal.div, if_neg h0, ← EReal.coe_sub, Ideal.exp_coe, ← EReal.coe_inv, ← EReal.coe_mul, EReal.coe_eq_coe_iff,
    logit, ← sub_sub, Real.exp_sub _ (Real.log _), Real.exp_log (mass_pos f), div_eq_mul_inv]

end Cert.Softmax

end
-- ==== Proof.Points.lean ====
/-
  What the two calls' blocks hold at an index, in exact arithmetic.

  The first call's block of gate values is the dot product of a row with a column, plus the bias; its two rows of
  statistics are each column's maximum and each column's sum of exponentials less that maximum. The second call's
  scores are the gate values less the whole column's maximum and the logarithm of the whole column's sum, both got
  by combining the sixteen blocks' rows.
-/
module

public import proofs.«01_k».proof.Proof.Pick
public import proofs.«01_k».proof.Proof.Softmax

@[expose] public section

noncomputable section

namespace Cert.KernelIdeal.Run

open Cert.KernelIdeal Cert.KernelIdeal.Gen Cert.Softmax
open Idealize.ShloMosaic

/-! ## The first call's block -/

variable (x : Vec Ideal S512x4096 .f32) (w : Vec Ideal S4096x64 .f32) (b : Vec Ideal S8x64 .f32)

/-- The bias is the first row of its array. -/
theorem biasRow_apply (e : Fin 64) : biasRow b (ix2 0 e) = b (ix2 0 e) := by pointwise [biasRow]

/-- A gate value: the dot product, plus the bias. -/
theorem gateBlk_apply (t : Fin 512) (e : Fin 64) :
    gateBlk x w b (ix2 t e) = ∑ k : Fin 4096, x (ix2 t k) * w (ix2 k e) + b (ix2 0 e) := by
  rw [← biasRow_apply b e]
  pointwise [gateBlk, k0_pay1]

/-- A column's maximum over the block. -/
theorem maxRow_apply (e : Fin 64) :
    maxRow x w b (ix2 0 e) = Finset.univ.fold max (⊥ : EReal) fun t : Fin 512 => gateBlk x w b (ix2 t e) := by
  rw [← neg_inf]
  pointwise [maxRow, k0_pay2]
  rfl

/-- A column's sum of exponentials less its maximum. -/
theorem sumRow_apply (e : Fin 64) :
    sumRow x w b (ix2 0 e)
      = ∑ t : Fin 512, Ideal.exp (gateBlk x w b (ix2 t e) - maxRow x w b (ix2 0 e)) := by
  pointwise [sumRow, k0_pay3]
  rfl

/-- The two rows where the column's gate values are real. -/
theorem rows_coe (e : Fin 64) (f : Fin 512 → ℝ) (h : ∀ t, gateBlk x w b (ix2 t e) = (f t : EReal)) :
    maxRow x w b (ix2 0 e) = (top f : EReal) ∧ sumRow x w b (ix2 0 e) = (mass f : EReal) := by
  have h0 : maxRow x w b (ix2 0 e) = (top f : EReal) := by
    rw [maxRow_apply, ← fold_max_coe]
    exact Finset.fold_congr fun t _ => h t
  refine ⟨h0, ?_⟩
  rw [sumRow_apply, h0, ← sum_exp_coe]
  exact Finset.sum_congr rfl fun t _ => by rw [h t]

/-! ## The second call's scores -/

/-- The place of block `i`'s row `r` in the array of statistics. -/
def statAt (i : Fin 16) (r : Fin 2) : Fin 128 := ⟨i.val * 8 + r.val, by omega⟩

/-- The combined column maximum. -/
def wholeTop (st : Vec Ideal S128x64 .f32) (e : Fin 64) : EReal :=
  Finset.univ.fold max (⊥ : EReal) fun i : Fin 16 => st (ix2 (statAt i 0) e)

/-- A score: the gate value, less the combined maximum and the logarithm of the combined sum. -/
theorem scoreBlk_apply (g : Vec Ideal S512x64 .f32) (st : Vec Ideal S128x64 .f32) (t : Fin 512) (e : Fin 64) :
    scoreBlk g st (ix2 t e) = g (ix2 t e) - (wholeTop st e + Ideal.log (∑ i : Fin 16,
      st (ix2 (statAt i 1) e) * Ideal.exp (st (ix2 (statAt i 0) e) - wholeTop st e))) := by
  unfold wholeTop
  rw [← neg_inf]
  pointwise [scoreBlk, k1_pay2]
  rfl

/-- The score of a token whose column is real: the logarithm of the softmax. -/
theorem scoreBlk_coe (g : Vec Ideal S512x64 .f32) (st : Vec Ideal S128x64 .f32) (e : Fin 64) (f : Fin 8192 → ℝ)
    (h0 : ∀ i, st (ix2 (statAt i 0) e) = (top (fun t => f (tok i t)) : EReal))
    (h1 : ∀ i, st (ix2 (statAt i 1) e) = (mass (fun t => f (tok i t)) : EReal))
    (i : Fin 16) (t : Fin 512) (hg : g (ix2 t e) = (f (tok i t) : EReal)) :
    scoreBlk g st (ix2 t e) = (logit f (tok i t) : EReal) := by
  have hT : wholeTop st e = (top f : EReal) := by
    rw [← top_top f, ← fold_max_coe]
    exact Finset.fold_congr fun i _ => h0 i
  have hS : ∑ i : Fin 16, st (ix2 (statAt i 1) e) * Ideal.exp (st (ix2 (statAt i 0) e) - (top f : EReal)) = (mass f : EReal) := by
    rw [← sum_mass_coe f]
    exact Finset.sum_congr rfl fun i _ => by rw [h0 i, h1 i]
  rw [scoreBlk_apply, hT, hS, hg, score_eq]

end Cert.KernelIdeal.Run

end
-- ==== Proof.Arrays.lean ====
/-
  What the arrays hold, in exact arithmetic: each call's block read off the arrays, and each call's result array read
  at an index as the body's block at the grid point that wrote it.
-/
module

public import proofs.«01_k».proof.Proof.Calls
public import proofs.«01_k».proof.Proof.Points
public import Idealize.ShloMosaic.Lib.Pipeline.ValueKit

@[expose] public section

set_option maxRecDepth 16384

noncomputable section

namespace Cert.KernelIdeal.Run

open Cert.KernelIdeal Cert.KernelIdeal.Gen Cert.Softmax
open Idealize.ShloMosaic Idealize.ShloMosaic.TcCoe Idealize.ShloMosaic.Tactic
open Idealize.ShloMosaic.Pipeline (Dat Cfg Window)

/-- Grid point `i` of the first call, and of the second. -/
def pt0 (i : Fin 16) : Fin cfg0.N := ⟨i.val, lt_of_lt_of_eq i.isLt N_0.symm⟩
def pt1 (i : Fin 16) : Fin cfg1.N := ⟨i.val, lt_of_lt_of_eq i.isLt N_1.symm⟩

/-! ## Where each window's block lies -/

theorem index0_0 : ∀ t : Fin cfg0.N, win0_0.index t = ![t.val, 0] := by decide +kernel
theorem index0_1 : ∀ t : Fin cfg0.N, win0_1.index t = ![0, 0] := by decide +kernel
theorem index0_2 : ∀ t : Fin cfg0.N, win0_2.index t = ![0, 0] := by decide +kernel
theorem index0_3 : ∀ t : Fin cfg0.N, win0_3.index t = ![t.val, 0] := by decide +kernel
theorem index0_4 : ∀ t : Fin cfg0.N, win0_4.index t = ![t.val, 0] := by decide +kernel
theorem index1_0 : ∀ t : Fin cfg1.N, win1_0.index t = ![t.val, 0] := by decide +kernel
theorem index1_1 : ∀ t : Fin cfg1.N, win1_1.index t = ![0, 0] := by decide +kernel
theorem index1_2 : ∀ t : Fin cfg1.N, win1_2.index t = ![t.val, 0] := by decide +kernel

/-! ## The blocks the bodies read -/

section Read

variable (V : (c : Dev nD) → (b : Ref sig .tc) → Buf (Elt Ideal) ((c : Thread nD τ).loc b)) (c : Dev nD)

theorem blk0_x (i : Fin 16) (t : Fin 512) (k : Fin 4096) :
    blk0 V c 0 (pt0 i) (ix2 t k) = V c main_arg0 (ix2 (tok i t) k) := by
  blk_ext [blk0, index0_0, pt0, tok]

theorem blk0_w (i : Fin 16) (k : Fin 4096) (e : Fin 64) :
    blk0 V c 1 (pt0 i) (ix2 k e) = V c main_v0 (ix2 k e) := by
  blk_ext [blk0, index0_1, pt0]

theorem blk0_b (i : Fin 16) (r : Fin 8) (e : Fin 64) :
    blk0 V c 2 (pt0 i) (ix2 r e) = V c main_v3 (ix2 r e) := by
  blk_ext [blk0, index0_2, pt0]

theorem blk1_g (i : Fin 16) (t : Fin 512) (e : Fin 64) :
    blk1 V c 0 (pt1 i) (ix2 t e) = V c main_v4_0 (ix2 (tok i t) e) := by
  blk_ext [blk1, index1_0, pt1, tok]

theorem blk1_st (i : Fin 16) (r : Fin 128) (e : Fin 64) :
    blk1 V c 1 (pt1 i) (ix2 r e) = V c main_v4_1 (ix2 r e) := by
  blk_ext [blk1, index1_1, pt1]

end Read

/-! ## The result arrays -/

section Write

variable (m : (ℓ : Loc nD τ sig) → Buf (Elt Ideal) ℓ) (X : Stats Ideal) (c : Dev nD)

/-- The array of gate values: each block is what the first body left. -/
theorem gateArr_apply (i : Fin 16) (t : Fin 512) (e : Fin 64) :
    gateArr m X c (ix2 (tok i t) e)
      = gateBlk (blk0 (E1 m) c 0 (pt0 i)) (blk0 (E1 m) c 1 (pt0 i)) (blk0 (E1 m) c 2 (pt0 i)) (ix2 t e) := by
  have h := (dat0 (E1 m) X c).arrAt_emb_eq_flushed 3
    (Window.hdisj_of_index_inj _ (by decide +kernel)) (pt0 i) (flush0_3 _) (ix2 t e)
  have he : ((cfg0.win 3).blk (pt0 i)).view.emb (ix2 t e) = ix2 (tok i t) e := by
    blk_ext [index0_3, pt0, tok]
  rw [he] at h
  exact h.trans rfl

/-- The array of statistics: each block is what the first body left. -/
theorem statArr_apply (i : Fin 16) (r : Fin 2) (e : Fin 64) :
    statArr m X c (ix2 (statAt i r) e) = X (pt0 i) (ix2 ⟨r.val, by omega⟩ e) := by
  have h := (dat0 (E1 m) X c).arrAt_emb_eq_flushed 4
    (Window.hdisj_of_index_inj _ (by decide +kernel)) (pt0 i) (flush0_4 _) (ix2 ⟨r.val, by omega⟩ e)
  have he : ((cfg0.win 4).blk (pt0 i)).view.emb (ix2 ⟨r.val, by omega⟩ e) = ix2 (statAt i r) e := by
    blk_ext [index0_4, pt0, statAt]
  rw [he] at h
  exact h.trans rfl

/-- The array of chosen experts: each block is what the second body left. -/
theorem pickArr_apply (i : Fin 16) (t : Fin 512) (k : Fin 8) :
    pickArr m X c (ix2 (tok i t) k)
      = pickBlk (blk1 (E2 m X) c 0 (pt1 i)) (blk1 (E2 m X) c 1 (pt1 i)) (ix2 t k) := by
  have h := (dat1 (E2 m X) c).arrAt_emb_eq_flushed 2
    (Window.hdisj_of_index_inj _ (by decide +kernel)) (pt1 i) (flush1_2 _) (ix2 t k)
  have he : ((cfg1.win 2).blk (pt1 i)).view.emb (ix2 t k) = ix2 (tok i t) k := by
    blk_ext [index1_2, pt1, tok]
  rw [he] at h
  exact h.trans rfl

end Write

end Cert.KernelIdeal.Run

end
-- ==== Proof.Host.lean ====
/-
  What the host's operations leave before the calls: the transposed weights, and the bias set into the first row of an
  array of zeros.
-/
module

public import proofs.«01_k».proof.Proof.Calls
public import Idealize.ShloMosaic.Lib.Pointwise
public import Idealize.ShloMosaic.Lib.Routing.OpsPair
public import Idealize.ShloMosaic.Lib.Routing.OpsSet

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F]

/-- The bias array: the bias set into row 0 of zeros. -/
def biasArr (b : FVec F S64 .f32) : FVec F S8x64 .f32 :=
  Host.scatter scatter_S8x64_S1_S64_0_0_0_0 (fun _ b => b)
    (broadcastInDim S8x64 ![] bcast_S_S8x64 (constant S_ .f32 0x00000000#32))
    (broadcastInDim S1 ![] bcast_S_S1 (constantI S_ 32 0#32)) b

/-- Where each of the bias's entries is set: its own column of row 0. -/
theorem lands (e e' : Fin 64) :
    (scatter_S8x64_S1_S64_0_0_0_0.resultIdx? (ix1 e) (broadcastInDim S1 ![] bcast_S_S1 (constantI S_ 32 0#32))
      = some (ix2 0 e')) ↔ e = e' := by
  refine (Routing.resultIdx?_ix2 _ _ _ (0 : Fin 8) e').trans ?_
  have h0 : scatter_S8x64_S1_S64_0_0_0_0.start (ix1 e) (broadcastInDim S1 ![] bcast_S_S1 (constantI S_ 32 0#32)) 0 = 0 := rfl
  have h1 : scatter_S8x64_S1_S64_0_0_0_0.start (ix1 e) (broadcastInDim S1 ![] bcast_S_S1 (constantI S_ 32 0#32)) 1 = 0 := rfl
  have w0 : scatter_S8x64_S1_S64_0_0_0_0.window (ix1 e) 0 = 0 := rfl
  have w1 : scatter_S8x64_S1_S64_0_0_0_0.window (ix1 e) 1 = e.val := rfl
  rw [h0, h1, w0, w1]
  constructor
  · rintro ⟨-, h⟩; exact Fin.ext (by omega)
  · rintro rfl; exact ⟨rfl, by omega⟩

/-- The bias array's first row is the bias. -/
theorem biasArr_apply (b : FVec F S64 .f32) (e : Fin 64) : biasArr b (ix2 0 e) = b (ix1 e) := by
  unfold biasArr
  refine Routing.scatter_set_hit _ _ _ _ _ _ (fun k hk => ?_) (ix1 e) ((lands e e).2 rfl)
  obtain ⟨e', rfl⟩ : ∃ e' : Fin 64, k = ix1 e' := ⟨k 0, by funext a; match a with | ⟨0, _⟩ => rfl⟩
  rw [(lands e' e).1 hk]

variable (m : (ℓ : Loc nD τ sig) → Buf (Elt F) ℓ) (c : Dev nD)

/-- The weights the first call reads: the argument transposed. -/
theorem E1_w (k : Fin 4096) (e : Fin 64) :
    E1 m c main_v0 (ix2 k e) = m ((c.tc : Thread nD τ).loc main_arg1) (ix2 e k) := by
  have h : E1 m c main_v0 = transpose S4096x64 [1, 0] (m ((c.tc : Thread nD τ).loc main_arg1) : FVec F S64x4096 .f32) transposes_S64x4096_S4096x64_1_0 := by
    show StableHlo.after hostOps0 (V0 m c) _ = _
    after_results
  rw [h]
  pointwise

/-- The bias array the first call reads. -/
theorem E1_b (e : Fin 64) :
    E1 m c main_v3 (ix2 0 e) = m ((c.tc : Thread nD τ).loc main_arg2) (ix1 e) := by
  have h : E1 m c main_v3 = biasArr (m ((c.tc : Thread nD τ).loc main_arg2) : FVec F S64 .f32) := by
    unfold biasArr
    show StableHlo.after hostOps0 (V0 m c) _ = _
    after_results
  rw [h]
  exact biasArr_apply _ e

/-- The rows the first call reads: the argument. -/
theorem E1_x : E1 m c main_arg0 = m ((c.tc : Thread nD τ).loc main_arg0) :=
  V1_of m c main_arg0 (by decide)

end Cert.KernelIdeal.Run

end
-- ==== Proof.Reference.lean ====
/-
  What the reference computes, read at an index: the gate values (`gated_apply`), their softmax down each column
  (`softmaxOf_apply`), and the eight greatest of each row (`topIdx_apply`), the last by the stable sort of the row.
-/
module

public import proofs.«01_k».proof.Proof.Gen.ReferenceIdeal.Run
public import Idealize.ShloMosaic.Lib.Pointwise

@[expose] public section

noncomputable section

namespace Cert.ReferenceIdeal.Ref

open Cert.ReferenceIdeal Cert.ReferenceIdeal.Gen
open Idealize.ShloMosaic Idealize.ShloMosaic.TcCoe Idealize.SL.Sem

section Text

variable {F : FTy → Type} [FloatOps F]

/-- The gate values. -/
def gated (x : Vec F S8192x4096 .f32) (w : Vec F S64x4096 .f32) (b : Vec F S64 .f32) : FVec F S8192x64 .f32 :=
  addf (Host.dotGeneral dot_S8192x4096_S4096x64_S8192x64_1_0_0_1_n_n none x (transpose S4096x64 [1, 0] w transposes_S64x4096_S4096x64_1_0))
    (broadcastInDim S8192x64 ![0, 1] bcast_S1x64_S8192x64_0_1 (broadcastInDim S1x64 ![1] bcast_S64_S1x64_1 b))

/-- The exponentials of the gate values less their column's greatest. -/
def expsOf (g : FVec F S8192x64 .f32) : FVec F S8192x64 .f32 :=
  Host.exp (subf g (broadcastInDim S8192x64 ![0, 1] bcast_S1x64_S8192x64_0_1 (broadcastInDim S1x64 ![1] bcast_S64_S1x64_1
    (maximumf (broadcastInDim S64 ![] bcast_S_S64 (constant S_ .f32 0xFF800000#32))
      (Host.reduce FloatOps.maximumf g (constant S_ .f32 0xFF800000#32) reducesTo_S8192x64_S64_d0 h_S_)))))

/-- The softmax down each column. -/
def softmaxOf (g : FVec F S8192x64 .f32) : FVec F S8192x64 .f32 :=
  Host.divf (expsOf g) (broadcastInDim S8192x64 ![0, 1] bcast_S1x64_S8192x64_0_1 (broadcastInDim S1x64 ![1] bcast_S64_S1x64_1
    (Host.reduceAdd (expsOf g) (constant S_ .f32 0x00000000#32) reducesTo_S8192x64_S64_d0 h_S_)))

/-- The positions of each row's eight greatest values. -/
def topIdx (p : FVec F S8192x64 .f32) : IVec S8192x8 32 :=
  (Host.topK S8192x8 1 (FloatOps.cmpfTotal .gt) p sliceFits_S8192x64_S8192x8).2

/-- The reference's run: its result is those positions of the softmax of the gate values. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_indices)
          = topIdx (softmaxOf (gated (m ((c.tc : Thread nD τ).loc main_arg0)) (m ((c.tc : Thread nD τ).loc main_arg1))
              (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Text

/-- The gate value of a token at an expert. -/
theorem gated_apply (x : Vec Ideal S8192x4096 .f32) (w : Vec Ideal S64x4096 .f32) (b : Vec Ideal S64 .f32)
    (t : Fin 8192) (e : Fin 64) :
    gated x w b (ix2 t e) = ∑ k : Fin 4096, x (ix2 t k) * w (ix2 e k) + b (ix1 e) := by
  pointwise [gated]

/-- The greatest value of a column, as the reference takes it. -/
def colMax (g : FVec Ideal S8192x64 .f32) (e : Fin 64) : EReal :=
  Finset.univ.fold max ⊥ fun t : Fin 8192 => g (ix2 t e)

/-- The softmax of a token at an expert. -/
theorem softmaxOf_apply (g : FVec Ideal S8192x64 .f32) (t : Fin 8192) (e : Fin 64) :
    softmaxOf g (ix2 t e)
      = Ideal.div (Ideal.exp (g (ix2 t e) - colMax g e)) (∑ t' : Fin 8192, Ideal.exp (g (ix2 t' e) - colMax g e)) := by
  have hb : Ideal.ofBits .f32 0xFF800000#32 = ⊥ := by simp [Ideal.ofBits, Ideal.ieee]
  pointwise [softmaxOf, expsOf, colMax]
  simp only [hb, max_bot_left]

/-- Moving along a row's entries. -/
theorem along_row (t : Fin 8192) (e e' : Fin 64) :
    Shape.Idx.along (s := S8192x64) (ix2 t e) (1 : Fin 2) e' = ix2 t e' := by
  funext a
  match a with
  | ⟨0, _⟩ => rfl
  | ⟨1, _⟩ => rfl

/-- The column of a row's index, once set, is what it was set to. -/
theorem along_self (t : Fin 8192) (q z : Fin 64) :
    (Shape.Idx.along (s := S8192x64) (ix2 t q) (1 : Fin 2) z) (1 : Fin 2) = z := by
  rw [along_row]
  rfl

/-- The position of a row's value at a place of the stable sort by falling value. -/
theorem topIdx_apply (p : FVec Ideal S8192x64 .f32) (t : Fin 8192) (k : Fin 8) :
    topIdx p (ix2 t k)
      = BitVec.ofNat 32 (sortedFrom (fun e e' : Fin 64 => decide (p (ix2 t e') < p (ix2 t e)))
          (k.castLE (by decide))).val := by
  have hR : ∀ q : Fin 64, (fun e e' : Fin 64 => FloatOps.cmpfTotal .gt (p ((ix2 t q : S8192x64.Idx).along (1 : Fin 2) e))
        (p ((ix2 t q : S8192x64.Idx).along (1 : Fin 2) e')) == 1#1)
      = fun e e' : Fin 64 => decide (p (ix2 t e') < p (ix2 t e)) := fun q => by
    funext e e'
    rw [along_row, along_row]
    show (BitVec.ofBool (decide (p (ix2 t e') < p (ix2 t e))) == 1#1) = _
    cases decide (p (ix2 t e') < p (ix2 t e)) <;> rfl
  have key : ∀ q : Fin 64, BitVec.ofNat 32 ((Shape.Idx.along (s := S8192x64) (ix2 t q) (1 : Fin 2)
        (sortedFrom (fun e e' : Fin 64 => FloatOps.cmpfTotal .gt (p ((ix2 t q : S8192x64.Idx).along (1 : Fin 2) e))
          (p ((ix2 t q : S8192x64.Idx).along (1 : Fin 2) e')) == 1#1) q)) (1 : Fin 2)).val
      = BitVec.ofNat 32 (sortedFrom (fun e e' : Fin 64 => decide (p (ix2 t e') < p (ix2 t e))) q).val := fun q => by
    rw [← hR q]
    exact congrArg (fun z : Fin 64 => BitVec.ofNat 32 z.val) (along_self t q _)
  pointwise [topIdx, Host.topK, Host.sort2]
  exact key ⟨k.val, by omega⟩

end Cert.ReferenceIdeal.Ref

end
-- ==== Proof.Equation.lean ====
/-
  The equation: on real inputs the array of experts that the two calls leave is the reference's.

  Write `f e n` for the gate value of token `n` at expert `e`. The kernel ranks each token's row by the logarithm of
  the softmax, `logit (f e) n`, and the reference by the softmax, which is that number's exponential; so they rank
  alike, and the kernel's eight rounds take the positions that the reference's sort puts first.
-/
module

public import proofs.«01_k».proof.Proof.Arrays
public import proofs.«01_k».proof.Proof.Host
public import proofs.«01_k».proof.Proof.Reference

@[expose] public section

set_option maxRecDepth 16384

noncomputable section

namespace Cert.Equation

open Cert.KernelIdeal Cert.KernelIdeal.Gen Cert.KernelIdeal.Run Cert.Softmax Cert.Rounds
open Cert.ReferenceIdeal.Ref (gated softmaxOf topIdx colMax)
open Idealize.ShloMosaic Idealize.ShloMosaic.TcCoe

/-- The gate value of a token at an expert, over the reals. -/
def gate (x : Fin 8192 → Fin 4096 → ℝ) (w : Fin 64 → Fin 4096 → ℝ) (b : Fin 64 → ℝ) (e : Fin 64) (n : Fin 8192) : ℝ :=
  ∑ k, x n k * w e k + b e

theorem gate_coe (x : Fin 8192 → Fin 4096 → ℝ) (w : Fin 64 → Fin 4096 → ℝ) (b : Fin 64 → ℝ) (e : Fin 64) (n : Fin 8192) :
    ∑ k, (x n k : EReal) * (w e k : EReal) + (b e : EReal) = (gate x w b e n : EReal) := by
  unfold gate
  rw [EReal.coe_add, ← coe_sum]
  simp only [EReal.coe_mul]

/-! ## The reference's side -/

/-- The softmax of real gate values is the exponential of its logarithm. -/
theorem softmaxOf_coe (g : FVec Ideal Cert.ReferenceIdeal.S8192x64 .f32) (f : Fin 64 → Fin 8192 → ℝ)
    (hg : ∀ n e, g (ix2 n e) = (f e n : EReal)) (n : Fin 8192) (e : Fin 64) :
    softmaxOf g (ix2 n e) = (Real.exp (logit (f e) n) : EReal) := by
  have hT : colMax g e = (top (f e) : EReal) := by
    unfold colMax
    rw [← fold_max_coe]
    exact Finset.fold_congr fun n _ => hg n e
  have hS : ∑ n', Ideal.exp (g (ix2 n' e) - (top (f e) : EReal)) = (mass (f e) : EReal) := by
    rw [← sum_exp_coe]
    exact Finset.sum_congr rfl fun n' _ => by rw [hg n' e]
  rw [Cert.ReferenceIdeal.Ref.softmaxOf_apply, hT, hS, hg, softmax_eq_exp]

/-! ## The kernel's side -/

section Kernel

variable (m : (ℓ : Loc nD τ sig) → Buf (Elt Ideal) ℓ) (c : Dev nD)
variable (x : Fin 8192 → Fin 4096 → ℝ) (w : Fin 64 → Fin 4096 → ℝ) (b : Fin 64 → ℝ)
variable (hx : ∀ n k, m ((c.tc : Thread nD τ).loc main_arg0) (ix2 n k) = (x n k : EReal))
variable (hw : ∀ e k, m ((c.tc : Thread nD τ).loc main_arg1) (ix2 e k) = (w e k : EReal))
variable (hb : ∀ e, m ((c.tc : Thread nD τ).loc main_arg2) (ix1 e) = (b e : EReal))

include hx hw hb

/-- The first call's gate values. -/
theorem gateBlk_coe (i : Fin 16) (t : Fin 512) (e : Fin 64) :
    gateBlk (blk0 (E1 m) c 0 (pt0 i)) (blk0 (E1 m) c 1 (pt0 i)) (blk0 (E1 m) c 2 (pt0 i)) (ix2 t e)
      = (gate x w b e (tok i t) : EReal) := by
  rw [gateBlk_apply, blk0_b, E1_b, hb, ← gate_coe]
  refine congrArg (· + (b e : EReal)) (Finset.sum_congr rfl fun k _ => ?_)
  rw [blk0_x, blk0_w, E1_x, E1_w, hx, hw]

variable (X : Stats Ideal) (hX : Good m X c)

include hX

/-- The statistics the first call leaves: each block's maxima and sums. -/
theorem statArr_coe (i : Fin 16) (e : Fin 64) :
    statArr m X c (ix2 (statAt i 0) e) = (top (fun t => gate x w b e (tok i t)) : EReal)
      ∧ statArr m X c (ix2 (statAt i 1) e) = (mass (fun t => gate x w b e (tok i t)) : EReal) := by
  have hr := rows_coe _ _ _ e (fun t => gate x w b e (tok i t)) fun t => gateBlk_coe m c x w b hx hw hb i t e
  have hs := hX (pt0 i) e
  exact ⟨(statArr_apply m X c i 0 e).trans (hs.1.trans hr.1), (statArr_apply m X c i 1 e).trans (hs.2.trans hr.2)⟩

/-- The second call's scores. -/
theorem score_coe (i : Fin 16) (t : Fin 512) (e : Fin 64) :
    scoreBlk (blk1 (E2 m X) c 0 (pt1 i)) (blk1 (E2 m X) c 1 (pt1 i)) (ix2 t e)
      = (logit (gate x w b e) (tok i t) : EReal) := by
  refine scoreBlk_coe _ _ e (gate x w b e) (fun i' => ?_) (fun i' => ?_) i t ?_
  · rw [blk1_st, E2_stat]; exact (statArr_coe m c x w b hx hw hb X hX i' e).1
  · rw [blk1_st, E2_stat]; exact (statArr_coe m c x w b hx hw hb X hX i' e).2
  · rw [blk1_g, E2_gate, gateArr_apply]; exact gateBlk_coe m c x w b hx hw hb i t e

/-- The experts the second call picks are the reference's. -/
theorem pickArr_eq (n : Fin 8192) (k : Fin 8) :
    pickArr m X c (ix2 n k)
      = topIdx (softmaxOf (gated (m ((c.tc : Thread nD τ).loc main_arg0)) (m ((c.tc : Thread nD τ).loc main_arg1))
          (m ((c.tc : Thread nD τ).loc main_arg2)))) (ix2 n k) := by
  obtain ⟨i, t, rfl⟩ := tok_surj n
  have hg : ∀ n e, gated (m ((c.tc : Thread nD τ).loc main_arg0)) (m ((c.tc : Thread nD τ).loc main_arg1))
      (m ((c.tc : Thread nD τ).loc main_arg2)) (ix2 n e) = (gate x w b e n : EReal) := fun n e => by
    rw [Cert.ReferenceIdeal.Ref.gated_apply, ← gate_coe]
    refine congrArg₂ (· + ·) (Finset.sum_congr rfl fun k _ => ?_) (hb e)
    exact congrArg₂ (· * ·) (hx n k) (hw e k)
  have hs : ∀ e, rowOf (scoreBlk (blk1 (E2 m X) c 0 (pt1 i)) (blk1 (E2 m X) c 1 (pt1 i))) t e
      = (logit (gate x w b e) (tok i t) : EReal) := score_coe m c x w b hx hw hb X hX i t
  rw [pickArr_apply, pickBlk_apply, Cert.ReferenceIdeal.Ref.topIdx_apply]
  refine congrArg (fun z : Fin 64 => BitVec.ofNat 32 z.val) (Eq.symm ?_)
  refine sortedFrom_eq_roundPick _ (fun e => ?_) _ (fun p q => ?_) (by decide) k
  · rw [hs]
    exact EReal.bot_lt_coe _
  · rw [hs, hs, softmaxOf_coe _ _ hg, softmaxOf_coe _ _ hg]
    exact decide_eq_decide.2 (by rw [EReal.coe_lt_coe_iff, EReal.coe_lt_coe_iff, Real.exp_lt_exp])

end Kernel

end Cert.Equation

end
-- ==== Proof.Algebraic.lean ====
/-
  The value claim: from memories that agree on real arguments, the kernel and the reference end with the same array of
  chosen experts.
-/
module

public import proofs.«01_k».proof.Proof.Frames
public import proofs.«01_k».proof.Proof.Finite
public import proofs.«01_k».proof.Proof.Equation

@[expose] public section

noncomputable section

namespace Cert.Proof

open Idealize.ShloMosaic Idealize.ShloMosaic.TcCoe Idealize.SL.Sem
open Cert.ReferenceIdeal.Ref (gated softmaxOf topIdx)

/-- Whatever the unstored statistics rows hold, the second call's picks are the reference's. -/
theorem picks_eq [hF : Cert.Pre_inputs_finite.Facts]
    (m : (ℓ : Loc KernelIdeal.nD KernelIdeal.τ KernelIdeal.sig) → Buf (Elt Ideal) ℓ) (hm : Pre_KernelIdeal_inputs_finite m)
    (c : Dev KernelIdeal.nD) (X : KernelIdeal.Run.Stats Ideal) (hX : KernelIdeal.Run.Good m X c) :
    KernelIdeal.Run.pickArr m X c
      = topIdx (softmaxOf (gated (m ((c.tc : Thread KernelIdeal.nD KernelIdeal.τ).loc KernelIdeal.main_arg0))
          (m ((c.tc : Thread KernelIdeal.nD KernelIdeal.τ).loc KernelIdeal.main_arg1))
          (m ((c.tc : Thread KernelIdeal.nD KernelIdeal.τ).loc KernelIdeal.main_arg2)))) := by
  obtain ⟨hx, hw, hb⟩ := Cert.Finite.reals _ _ _ (hm c)
  choose x hx using hx
  choose w hw using hw
  choose b hb using hb
  funext i
  obtain ⟨n, k, rfl⟩ : ∃ (n : Fin 8192) (k : Fin 8), i = ix2 n k :=
    ⟨i 0, i 1, by funext a; match a with | ⟨0, _⟩ => rfl | ⟨1, _⟩ => rfl⟩
  exact Cert.Equation.pickArr_eq m c x w b hx hw hb X hX n k

/-- The value claim. -/
theorem algebraic [hF : Cert.Pre_inputs_finite.Facts] : algebraic_KernelIdeal_ReferenceIdeal_pre_inputs_finite := by
  intro m g m' g' hm hag
  refine ⟨fun c => topIdx (softmaxOf (gated (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2)))), ?_, ?_⟩
  · refine (θ_run KernelIdeal.defs _ _).mono (fun r hr c => ?_) (KernelIdeal.Run.run_value m g)
    obtain ⟨⟨X, hX, h⟩, hargs⟩ := hr.1 c
    exact ⟨h.trans (picks_eq m hm c X hX), hargs⟩
  · refine (θ_run ReferenceIdeal.defs _ _).mono (fun r hr c => ?_) (ReferenceIdeal.Ref.run_value m' g')
    obtain ⟨h, hargs⟩ := hr c
    refine ⟨h.trans ?_, hargs⟩
    rw [(hag c).1, (hag c).2.1, (hag c).2.2]

/-- The two frames again, stated under the value claim's precondition. -/
theorem quiescent_kernelIdeal_pre [hF : Cert.Pre_inputs_finite.Facts] : quiescent_KernelIdeal_pre_inputs_finite :=
  fun m g _ => quiescent_kernelIdeal m g trivial

theorem quiescent_referenceIdeal_pre [hF : Cert.Pre_inputs_finite.Facts] : quiescent_ReferenceIdeal_pre_inputs_finite :=
  fun m g _ => quiescent_referenceIdeal m g trivial

end Cert.Proof

end
-- ==== Proof.lean ====
/- The proof of the claims: each is proved in a module of its own under `Proof/`; this one puts them together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

namespace Cert.Proof

/-- Every claim of the certificate. -/
theorem claim : Cert.Claim :=
  ⟨Cert.Kernel.Gen.facts, Cert.KernelIdeal.Gen.facts, Cert.ReferenceIdeal.Gen.facts, Cert.Finite.facts,
    quiescent_kernel, quiescent_kernelIdeal, quiescent_kernelIdeal_pre (hF := Cert.Finite.facts), quiescent_referenceIdeal,
    quiescent_referenceIdeal_pre (hF := Cert.Finite.facts), trivial, algebraic (hF := Cert.Finite.facts)⟩

end Cert.Proof

end
